-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![256, 512]⟩ ⟨2, ![256, 16384]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![256, 512]⟩ ⟨2, ![256, 16384]⟩ 1 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![256, 512]⟩ ⟨2, ![256, 16384]⟩ 1 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![512, 256]⟩ ⟨2, ![16384, 256]⟩ 0 32 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![512, 256]⟩ ⟨2, ![16384, 256]⟩ 0 32 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![512, 256]⟩ ⟨2, ![16384, 256]⟩ 0 32 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![16, 256]⟩ ⟨2, ![512, 256]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x256 : Shape := ⟨2, ![512, 256]⟩
abbrev S256x512 : Shape := ⟨2, ![256, 512]⟩
abbrev S16x256 : Shape := ⟨2, ![16, 256]⟩
abbrev S32x16x256 : Shape := ⟨3, ![32, 16, 256]⟩
abbrev S5 : Shape := ⟨1, ![5]⟩
abbrev S_ : Shape := ⟨0, ![]⟩
abbrev S512x512 : Shape := ⟨2, ![512, 512]⟩
abbrev S1 : Shape := ⟨1, ![1]⟩
abbrev S1x16x256 : Shape := ⟨3, ![1, 16, 256]⟩

abbrev nBuf : Space → Nat
  | .hbm => 8
  | .vmem => 11
  | .smem => 0
  | _ => 0

abbrev bufTy : (tb : Table) → Fin (tcTables nBuf tb) → BufTy
  | .hbm, ⟨0, _⟩ => ⟨S512x256, .f32⟩
  | .hbm, ⟨1, _⟩ => ⟨S256x512, .f32⟩
  | .hbm, ⟨2, _⟩ => ⟨S256x512, .f32⟩
  | .hbm, ⟨3, _⟩ => ⟨S256x512, .f32⟩
  | .hbm, ⟨4, _⟩ => ⟨S512x256, .f32⟩
  | .hbm, ⟨5, _⟩ => ⟨S512x256, .f32⟩
  | .hbm, ⟨6, _⟩ => ⟨S512x256, .f32⟩
  | .hbm, ⟨7, _⟩ => ⟨S16x256, .f32⟩
  | .local _ .vmem, ⟨0, _⟩ => ⟨S512x256, .f32⟩
  | .local _ .vmem, ⟨1, _⟩ => ⟨S256x512, .f32⟩
  | .local _ .vmem, ⟨2, _⟩ => ⟨S512x256, .f32⟩
  | .local _ .vmem, ⟨3, _⟩ => ⟨S256x512, .f32⟩
  | .local _ .vmem, ⟨4, _⟩ => ⟨S512x256, .f32⟩
  | .local _ .vmem, ⟨5, _⟩ => ⟨S256x512, .f32⟩
  | .local _ .vmem, ⟨6, _⟩ => ⟨S512x256, .f32⟩
  | .local _ .vmem, ⟨7, _⟩ => ⟨S16x256, .f32⟩
  | .local _ .vmem, ⟨8, _⟩ => ⟨S512x256, .bf16⟩
  | .local _ .vmem, ⟨9, _⟩ => ⟨S32x16x256, .bf16⟩
  | .local _ .vmem, ⟨10, _⟩ => ⟨S512x256, .bf16⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev barrier0 : Sem sig := 0

abbrev nD : Nat := 32
abbrev τ : Topo := Topo.v7x

variable {F : FTy → Type} [FloatOps F]

abbrev grid0 : Pipeline.Grid := .none

@[reducible] def k0_t1_loop : Scf.Loop 32 :=
  let c1_i32_0 : BitVec 32 := 1#32
  let c31_i32 : BitVec 32 := 31#32
  let v4 : BitVec 32 := Scalar.addi c1_i32_0 c31_i32
  let c1_i32_1 : BitVec 32 := 1#32
  ⟨c1_i32_0, v4, c1_i32_1⟩
def k0_dev1 (d0 : Dev nD) (k0_t1 : Fin k0_t1_loop.trips) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let c1_i32_1 : BitVec 32 := 1#32
  let arg13 : BitVec 32 := Scf.iv c1_i32_0 c1_i32_1 k0_t1
  let v108 : BitVec 32 := Scalar.addi v2 arg13
  let c32_i32_104 : BitVec 32 := 32#32
  let v109 : BitVec 32 := Scalar.remsi v108 c32_i32_104
  let c1_i32_106 : BitVec 32 := 1#32
  let v110 : BitVec 32 := Scalar.muli v109 c1_i32_106
  let v111 : BitVec 32 := Scalar.addi c0_i32 v110
  v111.toNat
@[reducible] def k0_t2_loop : Scf.Loop 32 :=
  let c1_i32_13 : BitVec 32 := 1#32
  let c31_i32_14 : BitVec 32 := 31#32
  let v23 : BitVec 32 := Scalar.addi c1_i32_13 c31_i32_14
  let c1_i32_15 : BitVec 32 := 1#32
  ⟨c1_i32_13, v23, c1_i32_15⟩
def k0_off1 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_109 : BitVec 32 := 0#32
  let c0_i32_110 : BitVec 32 := 0#32
  ![v2.toNat, 0, 0]
def k0_off2 (d0 : Dev nD) (k0_t2 : Fin k0_t2_loop.trips) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_13 : BitVec 32 := 1#32
  let c1_i32_15 : BitVec 32 := 1#32
  let arg13 : BitVec 32 := Scf.iv c1_i32_13 c1_i32_15 k0_t2
  let v108 : BitVec 32 := Scalar.addi v2 arg13
  let c32_i32_104 : BitVec 32 := 32#32
  let v109 : BitVec 32 := Scalar.remsi v108 c32_i32_104
  let c16_i32_105 : BitVec 32 := 16#32
  let v110 : BitVec 32 := Scalar.muli v109 c16_i32_105
  let c0_i32_111 : BitVec 32 := 0#32
  ![v110.toNat, 0]
def k0_dev2 (d0 : Dev nD) (k0_t2 : Fin k0_t2_loop.trips) : Nat :=
  let c0_i32_108 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_13 : BitVec 32 := 1#32
  let c1_i32_15 : BitVec 32 := 1#32
  let arg13 : BitVec 32 := Scf.iv c1_i32_13 c1_i32_15 k0_t2
  let v108 : BitVec 32 := Scalar.addi v2 arg13
  let c32_i32_104 : BitVec 32 := 32#32
  let v109 : BitVec 32 := Scalar.remsi v108 c32_i32_104
  let c1_i32_107 : BitVec 32 := 1#32
  let v111 : BitVec 32 := Scalar.muli v109 c1_i32_107
  let v112 : BitVec 32 := Scalar.addi c0_i32_108 v111
  v112.toNat
def k0_off3 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v24 : BitVec 32 := Scalar.muli v2 c16_i32
  let v25 : Index := Scalar.indexCast v24
  let c0_17 : Index := 0#32
  ![v25.toNat, 0]
def k0_off4 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v27 : Index := Scalar.indexCast v2
  let c0_18 : Index := 0#32
  let c0_19 : Index := 0#32
  ![v27.toNat, 0, 0]
@[reducible] def k0_t3_loop : Scf.Loop 32 :=
  let c1_i32_20 : BitVec 32 := 1#32
  let c31_i32_21 : BitVec 32 := 31#32
  let v31 : BitVec 32 := Scalar.addi c1_i32_20 c31_i32_21
  let c1_i32_22 : BitVec 32 := 1#32
  ⟨c1_i32_20, v31, c1_i32_22⟩
def k0_off5 (d0 : Dev nD) (k0_t3 : Fin k0_t3_loop.trips) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_20 : BitVec 32 := 1#32
  let c1_i32_22 : BitVec 32 := 1#32
  let arg13 : BitVec 32 := Scf.iv c1_i32_20 c1_i32_22 k0_t3
  let v108 : BitVec 32 := Scalar.addi v2 arg13
  let c32_i32_104 : BitVec 32 := 32#32
  let v109 : BitVec 32 := Scalar.remsi v108 c32_i32_104
  let c16_i32_105 : BitVec 32 := 16#32
  let v110 : BitVec 32 := Scalar.muli v109 c16_i32_105
  let c0_i32_108 : BitVec 32 := 0#32
  ![v110.toNat, 0]
def k0_off6 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_109 : BitVec 32 := 0#32
  let c0_i32_110 : BitVec 32 := 0#32
  ![v2.toNat, 0, 0]
def k0_off7 (d0 : Dev nD) (k0_t3 : Fin k0_t3_loop.trips) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_20 : BitVec 32 := 1#32
  let c1_i32_22 : BitVec 32 := 1#32
  let arg13 : BitVec 32 := Scf.iv c1_i32_20 c1_i32_22 k0_t3
  let v116 : BitVec 32 := Scalar.addi v2 arg13
  let c32_i32_111 : BitVec 32 := 32#32
  let v117 : BitVec 32 := Scalar.remsi v116 c32_i32_111
  let c0_i32_116 : BitVec 32 := 0#32
  let c0_i32_117 : BitVec 32 := 0#32
  ![v117.toNat, 0, 0]
@[reducible] def k0_t4_loop : Scf.Loop 32 :=
  let c1_i32_30 : BitVec 32 := 1#32
  let c31_i32_31 : BitVec 32 := 31#32
  let v41 : BitVec 32 := Scalar.addi c1_i32_30 c31_i32_31
  let c1_i32_32 : BitVec 32 := 1#32
  ⟨c1_i32_30, v41, c1_i32_32⟩
def k0_off8 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_106 : BitVec 32 := 16#32
  let v111 : BitVec 32 := Scalar.muli v2 c16_i32_106
  let c0_i32_110 : BitVec 32 := 0#32
  ![v111.toNat, 0]
def k0_dev3 (d0 : Dev nD) (k0_t4 : Fin k0_t4_loop.trips) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_30 : BitVec 32 := 1#32
  let c1_i32_32 : BitVec 32 := 1#32
  let arg13 : BitVec 32 := Scf.iv c1_i32_30 c1_i32_32 k0_t4
  let v108 : BitVec 32 := Scalar.addi v2 arg13
  let c32_i32_104 : BitVec 32 := 32#32
  let v109 : BitVec 32 := Scalar.remsi v108 c32_i32_104
  let c1_i32_109 : BitVec 32 := 1#32
  let v112 : BitVec 32 := Scalar.muli v109 c1_i32_109
  let v113 : BitVec 32 := Scalar.addi c0_i32 v112
  v113.toNat
@[reducible] def k0_t5_loop : Scf.Loop 32 :=
  let c1_i32_34 : BitVec 32 := 1#32
  let c31_i32_35 : BitVec 32 := 31#32
  let v42 : BitVec 32 := Scalar.addi c1_i32_34 c31_i32_35
  let c1_i32_36 : BitVec 32 := 1#32
  ⟨c1_i32_34, v42, c1_i32_36⟩
def k0_off9 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_105 : BitVec 32 := 16#32
  let v110 : BitVec 32 := Scalar.muli v2 c16_i32_105
  let c0_i32_109 : BitVec 32 := 0#32
  ![v110.toNat, 0]
def k0_off10 (d0 : Dev nD) (k0_t5 : Fin k0_t5_loop.trips) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_34 : BitVec 32 := 1#32
  let c1_i32_36 : BitVec 32 := 1#32
  let arg13 : BitVec 32 := Scf.iv c1_i32_34 c1_i32_36 k0_t5
  let v116 : BitVec 32 := Scalar.addi v2 arg13
  let c32_i32_111 : BitVec 32 := 32#32
  let v117 : BitVec 32 := Scalar.remsi v116 c32_i32_111
  let c16_i32_112 : BitVec 32 := 16#32
  let v118 : BitVec 32 := Scalar.muli v117 c16_i32_112
  let c0_i32_117 : BitVec 32 := 0#32
  ![v118.toNat, 0]
@[reducible] def k0_t6_loop : Scf.Loop 32 :=
  let c1_i32_49 : BitVec 32 := 1#32
  let c31_i32_50 : BitVec 32 := 31#32
  let v59 : BitVec 32 := Scalar.addi c1_i32_49 c31_i32_50
  let c1_i32_51 : BitVec 32 := 1#32
  ⟨c1_i32_49, v59, c1_i32_51⟩
def k0_off11 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_108 : BitVec 32 := 0#32
  let c0_i32_109 : BitVec 32 := 0#32
  ![v2.toNat, 0, 0]
def k0_off12 (d0 : Dev nD) (k0_t6 : Fin k0_t6_loop.trips) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_49 : BitVec 32 := 1#32
  let c1_i32_51 : BitVec 32 := 1#32
  let arg13 : BitVec 32 := Scf.iv c1_i32_49 c1_i32_51 k0_t6
  let v108 : BitVec 32 := Scalar.addi v2 arg13
  let c32_i32_104 : BitVec 32 := 32#32
  let v109 : BitVec 32 := Scalar.remsi v108 c32_i32_104
  let c16_i32_105 : BitVec 32 := 16#32
  let v110 : BitVec 32 := Scalar.muli v109 c16_i32_105
  let c0_i32_110 : BitVec 32 := 0#32
  ![v110.toNat, 0]
def k0_dev4 (d0 : Dev nD) (k0_t6 : Fin k0_t6_loop.trips) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_49 : BitVec 32 := 1#32
  let c1_i32_51 : BitVec 32 := 1#32
  let arg13 : BitVec 32 := Scf.iv c1_i32_49 c1_i32_51 k0_t6
  let v108 : BitVec 32 := Scalar.addi v2 arg13
  let c32_i32_104 : BitVec 32 := 32#32
  let v109 : BitVec 32 := Scalar.remsi v108 c32_i32_104
  let c1_i32_107 : BitVec 32 := 1#32
  let v111 : BitVec 32 := Scalar.muli v109 c1_i32_107
  let v112 : BitVec 32 := Scalar.addi c0_i32 v111
  v112.toNat
@[reducible] def k0_t7_loop : Scf.Loop 32 :=
  let c1_i32_57 : BitVec 32 := 1#32
  let c31_i32_58 : BitVec 32 := 31#32
  let v67 : BitVec 32 := Scalar.addi c1_i32_57 c31_i32_58
  let c1_i32_59 : BitVec 32 := 1#32
  ⟨c1_i32_57, v67, c1_i32_59⟩
def k0_off13 (d0 : Dev nD) (k0_t7 : Fin k0_t7_loop.trips) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_57 : BitVec 32 := 1#32
  let c1_i32_59 : BitVec 32 := 1#32
  let arg13 : BitVec 32 := Scf.iv c1_i32_57 c1_i32_59 k0_t7
  let v108 : BitVec 32 := Scalar.addi v2 arg13
  let c32_i32_104 : BitVec 32 := 32#32
  let v109 : BitVec 32 := Scalar.remsi v108 c32_i32_104
  let c16_i32_105 : BitVec 32 := 16#32
  let v110 : BitVec 32 := Scalar.muli v109 c16_i32_105
  let c0_i32_107 : BitVec 32 := 0#32
  ![v110.toNat, 0]
def k0_off14 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_108 : BitVec 32 := 0#32
  let c0_i32_109 : BitVec 32 := 0#32
  ![v2.toNat, 0, 0]
def k0_off15 (d0 : Dev nD) (k0_t7 : Fin k0_t7_loop.trips) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_57 : BitVec 32 := 1#32
  let c1_i32_59 : BitVec 32 := 1#32
  let arg13 : BitVec 32 := Scf.iv c1_i32_57 c1_i32_59 k0_t7
  let v116 : BitVec 32 := Scalar.addi v2 arg13
  let c32_i32_110 : BitVec 32 := 32#32
  let v117 : BitVec 32 := Scalar.remsi v116 c32_i32_110
  let c0_i32_115 : BitVec 32 := 0#32
  let c0_i32_116 : BitVec 32 := 0#32
  ![v117.toNat, 0, 0]
@[reducible] def k0_t8_loop : Scf.Loop 32 :=
  let c1_i32_67 : BitVec 32 := 1#32
  let c31_i32_68 : BitVec 32 := 31#32
  let v77 : BitVec 32 := Scalar.addi c1_i32_67 c31_i32_68
  let c1_i32_69 : BitVec 32 := 1#32
  ⟨c1_i32_67, v77, c1_i32_69⟩
def k0_off16 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_106 : BitVec 32 := 16#32
  let v111 : BitVec 32 := Scalar.muli v2 c16_i32_106
  let c0_i32_109 : BitVec 32 := 0#32
  ![v111.toNat, 0]
def k0_dev5 (d0 : Dev nD) (k0_t8 : Fin k0_t8_loop.trips) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_67 : BitVec 32 := 1#32
  let c1_i32_69 : BitVec 32 := 1#32
  let arg13 : BitVec 32 := Scf.iv c1_i32_67 c1_i32_69 k0_t8
  let v108 : BitVec 32 := Scalar.addi v2 arg13
  let c32_i32_104 : BitVec 32 := 32#32
  let v109 : BitVec 32 := Scalar.remsi v108 c32_i32_104
  let c1_i32_108 : BitVec 32 := 1#32
  let v112 : BitVec 32 := Scalar.muli v109 c1_i32_108
  let v113 : BitVec 32 := Scalar.addi c0_i32 v112
  v113.toNat
@[reducible] def k0_t9_loop : Scf.Loop 32 :=
  let c1_i32_71 : BitVec 32 := 1#32
  let c31_i32_72 : BitVec 32 := 31#32
  let v78 : BitVec 32 := Scalar.addi c1_i32_71 c31_i32_72
  let c1_i32_73 : BitVec 32 := 1#32
  ⟨c1_i32_71, v78, c1_i32_73⟩
def k0_off17 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_105 : BitVec 32 := 16#32
  let v110 : BitVec 32 := Scalar.muli v2 c16_i32_105
  let c0_i32_108 : BitVec 32 := 0#32
  ![v110.toNat, 0]
def k0_off18 (d0 : Dev nD) (k0_t9 : Fin k0_t9_loop.trips) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_71 : BitVec 32 := 1#32
  let c1_i32_73 : BitVec 32 := 1#32
  let arg13 : BitVec 32 := Scf.iv c1_i32_71 c1_i32_73 k0_t9
  let v116 : BitVec 32 := Scalar.addi v2 arg13
  let c32_i32_110 : BitVec 32 := 32#32
  let v117 : BitVec 32 := Scalar.remsi v116 c32_i32_110
  let c16_i32_111 : BitVec 32 := 16#32
  let v118 : BitVec 32 := Scalar.muli v117 c16_i32_111
  let c0_i32_116 : BitVec 32 := 0#32
  ![v118.toNat, 0]
@[reducible] def k0_t10_loop : Scf.Loop 32 :=
  let c1_i32_86 : BitVec 32 := 1#32
  let c31_i32_87 : BitVec 32 := 31#32
  let v95 : BitVec 32 := Scalar.addi c1_i32_86 c31_i32_87
  let c1_i32_88 : BitVec 32 := 1#32
  ⟨c1_i32_86, v95, c1_i32_88⟩
def k0_off19 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_108 : BitVec 32 := 0#32
  let c0_i32_109 : BitVec 32 := 0#32
  ![v2.toNat, 0, 0]
def k0_off20 (d0 : Dev nD) (k0_t10 : Fin k0_t10_loop.trips) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_86 : BitVec 32 := 1#32
  let c1_i32_88 : BitVec 32 := 1#32
  let arg13 : BitVec 32 := Scf.iv c1_i32_86 c1_i32_88 k0_t10
  let v108 : BitVec 32 := Scalar.addi v2 arg13
  let c32_i32_104 : BitVec 32 := 32#32
  let v109 : BitVec 32 := Scalar.remsi v108 c32_i32_104
  let c16_i32_105 : BitVec 32 := 16#32
  let v110 : BitVec 32 := Scalar.muli v109 c16_i32_105
  let c0_i32_110 : BitVec 32 := 0#32
  ![v110.toNat, 0]
def k0_dev6 (d0 : Dev nD) (k0_t10 : Fin k0_t10_loop.trips) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_86 : BitVec 32 := 1#32
  let c1_i32_88 : BitVec 32 := 1#32
  let arg13 : BitVec 32 := Scf.iv c1_i32_86 c1_i32_88 k0_t10
  let v108 : BitVec 32 := Scalar.addi v2 arg13
  let c32_i32_104 : BitVec 32 := 32#32
  let v109 : BitVec 32 := Scalar.remsi v108 c32_i32_104
  let c1_i32_107 : BitVec 32 := 1#32
  let v111 : BitVec 32 := Scalar.muli v109 c1_i32_107
  let v112 : BitVec 32 := Scalar.addi c0_i32 v111
  v112.toNat
@[reducible] def k0_t11_loop : Scf.Loop 32 :=
  let c1_i32_94 : BitVec 32 := 1#32
  let c31_i32_95 : BitVec 32 := 31#32
  let v103 : BitVec 32 := Scalar.addi c1_i32_94 c31_i32_95
  let c1_i32_96 : BitVec 32 := 1#32
  ⟨c1_i32_94, v103, c1_i32_96⟩
def k0_off21 (d0 : Dev nD) (k0_t11 : Fin k0_t11_loop.trips) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_94 : BitVec 32 := 1#32
  let c1_i32_96 : BitVec 32 := 1#32
  let arg13 : BitVec 32 := Scf.iv c1_i32_94 c1_i32_96 k0_t11
  let v108 : BitVec 32 := Scalar.addi v2 arg13
  let c32_i32_104 : BitVec 32 := 32#32
  let v109 : BitVec 32 := Scalar.remsi v108 c32_i32_104
  let c16_i32_105 : BitVec 32 := 16#32
  let v110 : BitVec 32 := Scalar.muli v109 c16_i32_105
  let c0_i32_107 : BitVec 32 := 0#32
  ![v110.toNat, 0]
def k0_off22 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_108 : BitVec 32 := 0#32
  let c0_i32_109 : BitVec 32 := 0#32
  ![v2.toNat, 0, 0]
def k0_off23 (d0 : Dev nD) (k0_t11 : Fin k0_t11_loop.trips) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_94 : BitVec 32 := 1#32
  let c1_i32_96 : BitVec 32 := 1#32
  let arg13 : BitVec 32 := Scf.iv c1_i32_94 c1_i32_96 k0_t11
  let v116 : BitVec 32 := Scalar.addi v2 arg13
  let c32_i32_110 : BitVec 32 := 32#32
  let v117 : BitVec 32 := Scalar.remsi v116 c32_i32_110
  let c0_i32_115 : BitVec 32 := 0#32
  let c0_i32_116 : BitVec 32 := 0#32
  ![v117.toNat, 0, 0]
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S512x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S16x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S512x256 : Shape := ⟨2, ![512, 256]⟩
abbrev S256x16384 : Shape := ⟨2, ![256, 16384]⟩
abbrev S16384x256 : Shape := ⟨2, ![16384, 256]⟩
abbrev S512x16384 : Shape := ⟨2, ![512, 16384]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S256x16384, .f32⟩
  | .hbm, ⟨2, _⟩ => ⟨S256x16384, .f32⟩
  | .hbm, ⟨3, _⟩ => ⟨S256x16384, .f32⟩
  | .hbm, ⟨4, _⟩ => ⟨S16384x256, .f32⟩
  | .hbm, ⟨5, _⟩ => ⟨S16384x256, .f32⟩
  | .hbm, ⟨6, _⟩ => ⟨S16384x256, .f32⟩
  | .hbm, ⟨7, _⟩ => ⟨S512x16384, .f32⟩
  | .hbm, ⟨8, _⟩ => ⟨S_, .f32⟩
  | .hbm, ⟨9, _⟩ => ⟨S512x16384, .f32⟩
  | .hbm, ⟨10, _⟩ => ⟨S512x16384, .f32⟩
  | .hbm, ⟨11, _⟩ => ⟨S512x256, .f32⟩
  | .hbm, ⟨12, _⟩ => ⟨S512x16384, .f32⟩
  | .hbm, ⟨13, _⟩ => ⟨S_, .f32⟩
  | .hbm, ⟨14, _⟩ => ⟨S512x16384, .f32⟩
  | .hbm, ⟨15, _⟩ => ⟨S512x16384, .f32⟩
  | .hbm, ⟨16, _⟩ => ⟨S512x256, .f32⟩
  | .hbm, ⟨17, _⟩ => ⟨S512x16384, .f32⟩
  | .hbm, ⟨18, _⟩ => ⟨S_, .f32⟩
  | .hbm, ⟨19, _⟩ => ⟨S512x16384, .f32⟩
  | .hbm, ⟨20, _⟩ => ⟨S512x16384, .f32⟩
  | .hbm, ⟨21, _⟩ => ⟨S512x256, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Proof.KernelIdeal.Blocks.lean ====
/-
The blocks the kernel sends and receives. Each device holds three scratch buffers: the partial product of the
layer (512 × 256, cut into 32 blocks of 16 rows, one per device), the received partial products (32 slots of
16 × 256, one per device) and the layer's activations (512 × 256, cut like the partial product). This module names
the block `t` of each as the memref the kernel slices, says which elements it is, that the 32 blocks of a buffer
are disjoint and make it up, and what a block reads and what writing it leaves.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.Ring
public import Idealize.ShloMosaic.Lib.ViewIndex
public import Idealize.ShloMosaic.Lib.ValueLayout
public import Idealize.ShloMosaic.Lib.ValueIdxCoords

@[expose] public section

noncomputable section

namespace Cert.KernelIdealProof

open Cert.KernelIdeal Cert.KernelIdeal.Gen
open Idealize.ShloMosaic
open Idealize.ShloMosaic.TcCoe
open Idealize.ShloMosaic.ValueIdx

variable {F : FTy → Type} [FloatOps F]

/-! ## The memrefs -/

/-- The partial product, the received partial products, the activations: the three scratch buffers whole. -/
abbrev accM : Memref sig .tc .vmem S512x256 .bf16 := Memref.whole cc0_scratch0
abbrev rsM : Memref sig .tc .vmem S32x16x256 .bf16 := Memref.whole cc0_scratch1
abbrev xbM : Memref sig .tc .vmem S512x256 .bf16 := Memref.whole cc0_scratch2

theorem rowsInb (t : Dev nD) : ∀ a, (![16 * t.val, 0] : Fin 2 → ℕ) a + S16x256.size a ≤ S512x256.size a := by
  revert t; decide
theorem slotInb (t : Dev nD) : ∀ a, (![t.val, 0, 0] : Fin 3 → ℕ) a + S1x16x256.size a ≤ S32x16x256.size a := by
  revert t; decide

/-- Rows `16 t … 16 t + 15`. -/
abbrev rowsR (t : Dev nD) : Rect S512x256 := Rect.unit (s := S512x256) ![16 * t.val, 0] S16x256.size (rowsInb t)
/-- Slot `t`. -/
abbrev slotR (t : Dev nD) : Rect S32x16x256 := Rect.unit (s := S32x16x256) ![t.val, 0, 0] S1x16x256.size (slotInb t)

/-- Block `t` of the partial product, slot `t` of the received ones, block `t` of the activations. -/
abbrev accB (t : Dev nD) : Memref sig .tc .vmem S16x256 .bf16 := accM.slice (rowsR t) (fun _ => rfl)
abbrev slotB (t : Dev nD) : Memref sig .tc .vmem S16x256 .bf16 :=
  (rsM.slice (slotR t) (fun _ => rfl)).squeeze S16x256 squeezes_S1x16x256_S16x256
abbrev xB (t : Dev nD) : Memref sig .tc .vmem S16x256 .bf16 := xbM.slice (rowsR t) (fun _ => rfl)

/-- A slice at an offset equal to block `t`'s is block `t`. -/
theorem slice_eq_accB {off : Fin 2 → ℕ} (t : Dev nD) (h : off = ![16 * t.val, 0]) (inb) :
    accM.slice (Rect.unit (s := S512x256) off S16x256.size inb) (fun _ => rfl) = accB t := by subst h; rfl
theorem slice_eq_xB {off : Fin 2 → ℕ} (t : Dev nD) (h : off = ![16 * t.val, 0]) (inb) :
    xbM.slice (Rect.unit (s := S512x256) off S16x256.size inb) (fun _ => rfl) = xB t := by subst h; rfl
theorem slice_eq_slotB {off : Fin 3 → ℕ} (t : Dev nD) (h : off = ![t.val, 0, 0]) (inb) :
    (rsM.slice (Rect.unit (s := S32x16x256) off S1x16x256.size inb) (fun _ => rfl)).squeeze S16x256 squeezes_S1x16x256_S16x256 = slotB t := by
  subst h; rfl

/-- What one block's transfer credits. -/
abbrev N : ℕ := (slotB (0 : Dev nD)).view.dmaCredit
theorem N_pos : 0 < N := View.dmaCredit_pos _ (by decide)
theorem credit_acc (t : Dev nD) : (accB t).view.dmaCredit = N := rfl
theorem credit_slot (t : Dev nD) : (slotB t).view.dmaCredit = N := rfl
theorem credit_x (t : Dev nD) : (xB t).view.dmaCredit = N := rfl

/-! ## The elements of a block -/

/-- The elements of block `t` of a 512 × 256 buffer: those in rows `16 t … 16 t + 15`. -/
abbrev rowsSet (t : Dev nD) : Finset S512x256.Idx := (rowsR t).set
/-- The elements of slot `t`. -/
abbrev slotSet (t : Dev nD) : Finset S32x16x256.Idx := (slotR t).set

theorem set_accB (t : Dev nD) : (accB t).view.set = rowsSet t := View.set_slice_whole _ _
theorem set_xB (t : Dev nD) : (xB t).view.set = rowsSet t := View.set_slice_whole _ _
theorem set_slotB (t : Dev nD) : (slotB t).view.set = slotSet t :=
  (View.set_reshape _ _).trans (View.set_slice_whole _ _)

theorem mem_rows {t : Dev nD} {i : S512x256.Idx} : i ∈ rowsSet t ↔ (i 0).val / 16 = t.val := by
  rw [Rect.mem_set_unit, Fin.forall_fin_two]
  have h1 : (i 1).val < 256 := (i 1).isLt
  show (16 * t.val ≤ (i 0).val ∧ (i 0).val < 16 * t.val + 16) ∧ (0 ≤ (i 1).val ∧ (i 1).val < 0 + 256) ↔ _
  omega

theorem mem_slot {t : Dev nD} {i : S32x16x256.Idx} : i ∈ slotSet t ↔ (i 0).val = t.val := by
  rw [Rect.mem_set_unit, Fin.forall_fin_succ, Fin.forall_fin_two]
  have h1 : (i 1).val < 16 := (i 1).isLt
  have h2 : (i 2).val < 256 := (i 2).isLt
  show (t.val ≤ (i 0).val ∧ (i 0).val < t.val + 1) ∧ (0 ≤ (i 1).val ∧ (i 1).val < 0 + 16) ∧ (0 ≤ (i 2).val ∧ (i 2).val < 0 + 256) ↔ _
  omega

theorem rows_disj (t t' : Dev nD) (h : t ≠ t') : Disjoint (rowsSet t) (rowsSet t') :=
  Finset.disjoint_left.mpr fun i hi hi' => h (Fin.ext ((mem_rows.mp hi).symm.trans (mem_rows.mp hi')))
theorem slot_disj (t t' : Dev nD) (h : t ≠ t') : Disjoint (slotSet t) (slotSet t') :=
  Finset.disjoint_left.mpr fun i hi hi' => h (Fin.ext ((mem_slot.mp hi).symm.trans (mem_slot.mp hi')))

/-- The block an element of a 512 × 256 buffer is in. -/
def blockOf (i : S512x256.Idx) : Dev nD := ⟨(i 0).val / 16, by
  have h : (i 0).val < 512 := (i 0).isLt
  show _ < 32
  omega⟩

theorem rows_cover : (Finset.univ : Finset (Dev nD)).biUnion rowsSet = Finset.univ :=
  Finset.eq_univ_iff_forall.mpr fun i => Finset.mem_biUnion.mpr ⟨blockOf i, Finset.mem_univ _, mem_rows.mpr rfl⟩
theorem slot_cover : (Finset.univ : Finset (Dev nD)).biUnion slotSet = Finset.univ :=
  Finset.eq_univ_iff_forall.mpr fun i => Finset.mem_biUnion.mpr ⟨(⟨(i 0).val, (i 0).isLt⟩ : Fin 32), Finset.mem_univ _, mem_slot.mpr rfl⟩

/-! ## Contents by blocks -/

/-- Row `r` of block `t`. -/
def rowOf (t : Dev nD) (r : Fin 16) : Fin 512 := ⟨16 * t.val + r.val, by
  have h : t.val < 32 := t.isLt
  omega⟩
/-- The row an element has within its block. -/
def rowIn (i : S512x256.Idx) : Fin 16 := ⟨(i 0).val % 16, Nat.mod_lt _ (by decide)⟩

/-- What the 32 slots of device `d` hold once every device `s` has sent block `d` of its partial product `A s`. -/
def slotsOf (A : Dev nD → Vec F S512x256 .bf16) (d : Dev nD) : Vec F S32x16x256 .bf16 :=
  fun i => A (⟨(i 0).val, (i 0).isLt⟩ : Fin 32) (ix2 (rowOf d ⟨(i 1).val, (i 1).isLt⟩) (⟨(i 2).val, (i 2).isLt⟩ : Fin 256))

/-- The activations whose block `s` is `B s`. -/
def stack (B : Dev nD → Vec F S16x256 .bf16) : Vec F S512x256 .bf16 :=
  fun i => B (blockOf i) (ix2 (rowIn i) (⟨(i 1).val, (i 1).isLt⟩ : Fin 256))

theorem emb_rows (t : Dev nD) (r : Fin 16) (l : Fin 256) : (rowsR t).emb (ix2 r l : S16x256.Idx) = ix2 (rowOf t r) l := by
  funext a
  refine Fin.ext ?_
  match a with
  | ⟨0, _⟩ => show 16 * t.val + 1 * r.val = 16 * t.val + r.val; omega
  | ⟨1, _⟩ => show 0 + 1 * l.val = l.val; omega

theorem emb_slot (t : Dev nD) (u : Fin 1) (r : Fin 16) (l : Fin 256) :
    (slotR t).emb (ix3 u r l : S1x16x256.Idx) = ix3 (⟨t.val, t.isLt⟩ : Fin 32) r l := by
  funext a
  refine Fin.ext ?_
  match a with
  | ⟨0, _⟩ => show t.val + 1 * u.val = t.val; omega
  | ⟨1, _⟩ => show 0 + 1 * r.val = r.val; omega
  | ⟨2, _⟩ => show 0 + 1 * l.val = l.val; omega

/-- The element of slot `t` under index `(r, l)` of the block. -/
theorem emb_slotB (t : Dev nD) (r : Fin 16) (l : Fin 256) :
    (slotB t).view.emb (ix2 r l : S16x256.Idx) = (ix3 (⟨t.val, t.isLt⟩ : Fin 32) r l : S32x16x256.Idx) := by
  show (slotR t).emb (Shape.reshapeEquiv _ (ix2 r l : S16x256.Idx)) = _
  rw [reshapeEquiv_ix2_1ab]
  exact emb_slot t _ r l

/-- Block `t` sent from `accB t` and landed in slot `c` is slot `c` of `slotsOf A t`, for `A c` what was sent. -/
theorem landed_slot (A : Dev nD → Vec F S512x256 .bf16) (c t : Dev nD) (fd : Vec F S32x16x256 .bf16) :
    ∀ i ∈ slotSet c, (slotB c).view.write (Elt F) fd ((accB t).view.read (Elt F) (A c)) Finset.univ i = slotsOf A t i := by
  intro i hi
  have hi' := hi
  rw [← set_slotB] at hi
  obtain ⟨x, -, rfl⟩ := Finset.mem_map.mp hi
  obtain ⟨r, l, rfl⟩ : ∃ (r : Fin 16) (l : Fin 256), x = ix2 r l := ⟨x 0, x 1, eq_ix2 x⟩
  rw [View.write_emb_of_mem (v := (slotB c).view) fd _ (Finset.mem_univ _)]
  show A c ((rowsR t).emb (ix2 r l : S16x256.Idx)) = slotsOf A t ((slotB c).view.emb (ix2 r l : S16x256.Idx))
  rw [emb_rows, emb_slotB]
  rfl

/-- A block of the activations landed in the same block of another device's activations. -/
theorem landed_x (X : Vec F S512x256 .bf16) (c : Dev nD) (fd : Vec F S512x256 .bf16) :
    ∀ i ∈ rowsSet c, (xB c).view.write (Elt F) fd ((xB c).view.read (Elt F) X) Finset.univ i = X i := by
  intro i hi
  rw [← set_xB] at hi
  obtain ⟨x, -, rfl⟩ := Finset.mem_map.mp hi
  rw [View.write_emb_of_mem (v := (xB c).view) fd _ (Finset.mem_univ _)]
  rfl

end Cert.KernelIdealProof
-- ==== Proof.KernelIdeal.Schedule.lean ====
/-
The protocol between the 32 devices. Every device signals every other device's barrier semaphore and waits for its
31 signals; then five exchanges follow, numbered 0 … 4: in an even one (reduce-scatter) device `c` copies block `t`
of its partial product into slot `c` of device `t`'s received ones, for every other `t`; in an odd one (all-gather)
it copies its own block of activations into block `c` of device `t`'s, for every other `t`. Exchange `p` counts what
left on send semaphore `p` and what arrived on receive semaphore `p`. This module states what the buffers hold at
each exchange, what each signal and each arrival hands over, and the schedule of rounds these make: every semaphore
has one round, with one duty for every other device. A barrier signal from `s` hands the receiver its slot and its
block on `s`; an arrival hands over the block that landed, and, where the receiver's next copy to the sender needs
it, the place on the sender that copy writes.
-/
module

public import proofs.«01_k».proof.Proof.KernelIdeal.Blocks
public import proofs.«01_k».proof.Proof.Gen.KernelIdeal.Frame
public import Idealize.ShloMosaic.Lib.Rounds
public import Idealize.ShloMosaic.Lib.Transfers

@[expose] public section

noncomputable section

namespace Cert.KernelIdealProof

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state of the exchanges, duties named by the device that pays them, beside the launch's own. -/
abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The order in which a device serves the others -/

set_option backward.proofsInPublic true in
/-- The device `k + 1` places after `c`: the one trip `k` of a loop on device `c` serves. -/
def peer (c : Dev nD) (k : ℕ) : Dev nD := ⟨(c.val + k + 1) % 32, Nat.mod_lt _ (by decide)⟩

/-- The trip of device `c` that serves `t` (31 for `c` itself). -/
def dist (c t : Dev nD) : ℕ := (t.val + 31 - c.val) % 32

/-- The devices trips `k`, `k + 1`, … of device `c` serve. -/
def rem (c : Dev nD) (k : ℕ) : Finset (Dev nD) := Finset.univ.filter fun t => k ≤ dist c t ∧ dist c t < 31

theorem mem_rem (c t : Dev nD) (k : ℕ) : t ∈ rem c k ↔ k ≤ dist c t ∧ dist c t < 31 := by
  unfold rem; rw [Finset.mem_filter]; exact ⟨fun h => h.2, fun h => ⟨Finset.mem_univ _, h⟩⟩

theorem rem_zero (c : Dev nD) : rem c 0 = Finset.univ.erase c := by
  ext t
  rw [mem_rem, Finset.mem_erase, ne_eq, Fin.ext_iff]
  have h1 : t.val < 32 := t.isLt
  have h2 : c.val < 32 := c.isLt
  unfold dist
  constructor
  · intro h; exact ⟨by omega, Finset.mem_univ _⟩
  · intro h; have := h.1; omega

theorem rem_last (c : Dev nD) : rem c 31 = ∅ := by
  ext t; rw [mem_rem]; constructor
  · intro h; omega
  · intro h; exact absurd h (Finset.notMem_empty _)

theorem dist_peer (c : Dev nD) (k : ℕ) (hk : k < 31) : dist c (peer c k) = k := by
  have h2 : c.val < 32 := c.isLt
  unfold dist peer; dsimp only; omega

theorem peer_dist (c t : Dev nD) : peer c (dist c t) = t := by
  have h1 : t.val < 32 := t.isLt
  have h2 : c.val < 32 := c.isLt
  unfold dist peer; apply Fin.ext; dsimp only; omega

theorem peer_notMem (c : Dev nD) (k : ℕ) (hk : k < 31) : peer c k ∉ rem c (k + 1) := by
  rw [mem_rem, dist_peer c k hk]; omega

theorem rem_step (c : Dev nD) (k : ℕ) (hk : k < 31) : rem c k = insert (peer c k) (rem c (k + 1)) := by
  ext t
  rw [Finset.mem_insert, mem_rem, mem_rem]
  constructor
  · intro h
    by_cases e : dist c t = k
    · left; rw [← e, peer_dist]
    · right; omega
  · rintro (rfl | h)
    · rw [dist_peer c k hk]; omega
    · omega

theorem peer_ne (c : Dev nD) (k : ℕ) (hk : k < 31) : peer c k ≠ c := by
  have h2 : c.val < 32 := c.isLt
  intro h
  have := Fin.ext_iff.mp h
  unfold peer at this; dsimp only at this; omega

/-! ## The semaphores -/

/-- The barrier semaphore; send and receive semaphore `p`. -/
abbrev barS : Sem sig := (SemArray.scalar (sig.barrier 0 rfl) : Sems sig S_).sem
set_option backward.proofsInPublic true in
def sendS (p : Fin 5) : DmaSem sig := ⟨8 + p.val, by have := p.isLt; show 8 + p.val < 18; omega⟩
set_option backward.proofsInPublic true in
def recvS (p : Fin 5) : DmaSem sig := ⟨13 + p.val, by have := p.isLt; show 13 + p.val < 18; omega⟩

abbrev barCell (c : Dev nD) : GSem nD τ sig := ((c : Thread nD τ), .reg barS)
abbrev sendCell (c : Dev nD) (p : Fin 5) : GSem nD τ sig := ((c : Thread nD τ), .dma (sendS p))
abbrev recvCell (c : Dev nD) (p : Fin 5) : GSem nD τ sig := ((c : Thread nD τ), .dma (recvS p))

set_option backward.proofsInPublic true in
/-- The kernel's own semaphores: send 0 … 4, receive 0 … 4. -/
def osem (k : Fin 10) : SemLoc sig := .dma ⟨8 + k.val, by have := k.isLt; show 8 + k.val < 18; omega⟩
/-- All those of the protocol: the barrier first, then the kernel's own. -/
def csem (k : Fin 11) : SemLoc sig := if h : k.val = 0 then .reg barS else osem ⟨k.val - 1, by have := k.isLt; omega⟩
abbrev kcell (ck : Dev nD × Fin 11) : GSem nD τ sig := ((ck.1 : Thread nD τ), csem ck.2)

abbrev sIdx (p : Fin 5) : Fin 11 := ⟨1 + p.val, by have := p.isLt; omega⟩
abbrev rIdx (p : Fin 5) : Fin 11 := ⟨6 + p.val, by have := p.isLt; omega⟩

theorem kcell_bar (c : Dev nD) : kcell (c, 0) = barCell c := rfl
theorem kcell_send (c : Dev nD) (p : Fin 5) : kcell (c, sIdx p) = sendCell c p := by
  show ((c : Thread nD τ), csem (sIdx p)) = _
  congr 1; revert p; decide
theorem kcell_recv (c : Dev nD) (p : Fin 5) : kcell (c, rIdx p) = recvCell c p := by
  show ((c : Thread nD τ), csem (rIdx p)) = _
  congr 1; revert p; decide

/-! ## What the buffers hold -/

/-- Device `c`'s arguments as the body reads them: the input (the same on every device), and of each layer its
    block of columns of the first weight and its block of rows of the second. -/
def xin (c : Dev nD) : Vec F S512x256 .f32 := iblk m c 0 t0_0
def wi0 (c : Dev nD) : Vec F S256x512 .f32 := iblk m c 1 t0_0
def wo0 (c : Dev nD) : Vec F S512x256 .f32 := iblk m c 2 t0_0
def wi1 (c : Dev nD) : Vec F S256x512 .f32 := iblk m c 3 t0_0
def wo1 (c : Dev nD) : Vec F S512x256 .f32 := iblk m c 4 t0_0
def wi2 (c : Dev nD) : Vec F S256x512 .f32 := iblk m c 5 t0_0
def wo2 (c : Dev nD) : Vec F S512x256 .f32 := iblk m c 6 t0_0

/-- Device `c`'s partial product of the first layer; the activations after it, the same on every device, whose
    block `s` is device `s`'s sum of what it received; and so on through the layers; device `c`'s result. -/
def A0 (c : Dev nD) : Vec F S512x256 .bf16 := k0_pay1 (xin m c) (wi0 m c) (wo0 m c)
def X1 : Vec F S512x256 .bf16 := stack fun s => k0_pay3 (slotsOf (A0 m) s)
def A1 (c : Dev nD) : Vec F S512x256 .bf16 := k0_pay5 (k0_pay4 (X1 m) (wi1 m c) (wo1 m c))
def X2 : Vec F S512x256 .bf16 := stack fun s => k0_pay7 (slotsOf (A1 m) s)
def A2 (c : Dev nD) : Vec F S512x256 .bf16 := k0_pay8 (X2 m) (wi2 m c) (wo2 m c)
def outAt (c : Dev nD) : Vec F S16x256 .f32 := k0_pay10 (slotsOf (A2 m) c)

/-- The partial products exchange `p` sends (`p` even) and the activations it sends (`p` odd). -/
def accAt : ℕ → Dev nD → Vec F S512x256 .bf16
  | 0 => A0 m
  | 2 => A1 m
  | _ => A2 m
def actAt : ℕ → Vec F S512x256 .bf16
  | 1 => X1 m
  | _ => X2 m

/-! ## The resources that change hands -/

/-- Block `t` of device `c`'s partial product; slot `s` of its received ones; block `t` of its activations. -/
def accP (c t : Dev nD) (f : Vec F S512x256 .bf16) : sProp 𝕄 :=
  ((c : Thread nD τ).loc cc0_scratch0) ↦[rowsSet t]{fullShare} f
def slotP (c s : Dev nD) (f : Vec F S32x16x256 .bf16) : sProp 𝕄 :=
  ((c : Thread nD τ).loc cc0_scratch1) ↦[slotSet s]{fullShare} f
def xbP (c t : Dev nD) (q : PosShare TreeShare) (f : Vec F S512x256 .bf16) : sProp 𝕄 :=
  ((c : Thread nD τ).loc cc0_scratch2) ↦[rowsSet t]{q} f

/-- The share of its own block of activations device `c` lends the copy to `t`. -/
def shr (c t : Dev nD) : PosShare TreeShare := Transfers.dealOf fullShare (Finset.univ.erase c) t

/-- What device `c`'s copy to `t` in exchange `p` reads. -/
def sendPay (p : ℕ) (c t : Dev nD) : sProp 𝕄 :=
  if p % 2 = 0 then accP c t (accAt m p c) else xbP c c (shr c t) (actAt m p)
/-- The place on device `d` that device `s`'s copy of exchange `p` writes, contents unknown; -/
def dstP (p : ℕ) (d s : Dev nD) : sProp 𝕄 :=
  if p % 2 = 0 then iprop(∃ f, slotP (F := F) d s f) else iprop(∃ f, xbP (F := F) d s fullShare f)
/-- what it holds once the copy has landed. -/
def landP (p : ℕ) (d s : Dev nD) : sProp 𝕄 :=
  if p % 2 = 0 then slotP d s (slotsOf (accAt m p) d) else xbP d s fullShare (actAt m p)
/-- What the arrival of `s`'s copy hands `d` beside: in exchanges 1, 2, 3 the place on `s` that `d`'s copy of the
    next exchange writes. -/
def extraP (p : ℕ) (d s : Dev nD) : sProp 𝕄 :=
  if 1 ≤ p ∧ p ≤ 3 then dstP (F := F) (p + 1) s d else iprop(emp)
def recvPay (p : ℕ) (d s : Dev nD) : sProp 𝕄 := iprop(landP m p d s ∗ extraP (F := F) p d s)
/-- What `s`'s barrier signal hands `d`: the places on `s` that `d`'s copies of exchanges 0 and 1 write. -/
def barPay (d s : Dev nD) : sProp 𝕄 := iprop(dstP (F := F) 0 s d ∗ dstP (F := F) 1 s d)

omit [FloatOps F] in
instance dstP_storable (p : ℕ) (d s : Dev nD) : BI.Storable (upEmb : UEmb _ 𝕄) (dstP (F := F) p d s) := by
  unfold dstP slotP xbP; split <;> infer_instance
instance sendPay_storable (p : ℕ) (d s : Dev nD) : BI.Storable (upEmb : UEmb _ 𝕄) (sendPay m p d s) := by
  unfold sendPay accP xbP; split <;> infer_instance
instance landP_storable (p : ℕ) (d s : Dev nD) : BI.Storable (upEmb : UEmb _ 𝕄) (landP m p d s) := by
  unfold landP slotP xbP; split <;> infer_instance
omit [FloatOps F] in
instance extraP_storable (p : ℕ) (d s : Dev nD) : BI.Storable (upEmb : UEmb _ 𝕄) (extraP (F := F) p d s) := by
  unfold extraP; split <;> infer_instance
instance recvPay_storable (p : ℕ) (d s : Dev nD) : BI.Storable (upEmb : UEmb _ 𝕄) (recvPay m p d s) := by
  unfold recvPay; infer_instance
omit [FloatOps F] in
instance barPay_storable (d s : Dev nD) : BI.Storable (upEmb : UEmb _ 𝕄) (barPay (F := F) d s) := by
  unfold barPay; infer_instance

/-! ## The schedule -/

/-- Whether a cell is one of the protocol's: on a TensorCore, the barrier or one of the kernel's own semaphores. -/
def InRing (g : GSem nD τ sig) : Prop := g.1.2 = .tc ∧ ∃ k, g.2 = csem k

open Classical in
/-- One round, round 0, per cell: one duty for every other device, of one unit on the barrier and of a block's
    credit on a send or receive semaphore. -/
def Rd : Rounds.Schedule (GSem nD τ sig) (Dev nD) 𝕄 where
  duties g r := if r = 0 ∧ InRing g then Finset.univ.erase g.1.1 else ∅
  unitless _ := False
  amount g _ _ := match g.2 with
    | .reg _ => 1
    | .dma _ => N
  payload g _ d := match g.2 with
    | .reg _ => barPay (F := F) g.1.1 d
    | .dma q => if 13 ≤ q.val then recvPay m (q.val - 13) g.1.1 d else sendPay m (q.val - 8) g.1.1 d
  amount_pos g _ _ _ := by
    split
    · exact Nat.one_pos
    · exact N_pos

instance Rd_payload_storable (g : GSem nD τ sig) (r : ℕ) (d : Dev nD) :
    BI.Storable (upEmb : UEmb _ 𝕄) ((Rd m).payload g r d) := by
  unfold Rd; dsimp only
  split
  · infer_instance
  · split <;> infer_instance

theorem duties_kcell (ck : Dev nD × Fin 11) : (Rd m).duties (kcell ck) 0 = Finset.univ.erase ck.1 :=
  if_pos ⟨rfl, rfl, ck.2, rfl⟩
theorem duties_bar (c : Dev nD) : (Rd m).duties (barCell c) 0 = Finset.univ.erase c := duties_kcell m (c, 0)
theorem duties_send (c : Dev nD) (p : Fin 5) : (Rd m).duties (sendCell c p) 0 = Finset.univ.erase c := by
  rw [← kcell_send]; exact duties_kcell m (c, sIdx p)
theorem duties_recv (c : Dev nD) (p : Fin 5) : (Rd m).duties (recvCell c p) 0 = Finset.univ.erase c := by
  rw [← kcell_recv]; exact duties_kcell m (c, rIdx p)
theorem duties_later (g : GSem nD τ sig) : ∀ r, 1 ≤ r → (Rd m).duties g r = ∅ :=
  fun r hr => if_neg fun h => by omega

theorem amount_bar (c d : Dev nD) : (Rd m).amount (barCell c) 0 d = 1 := rfl
theorem amount_send (c d : Dev nD) (p : Fin 5) : (Rd m).amount (sendCell c p) 0 d = N := rfl
theorem amount_recv (c d : Dev nD) (p : Fin 5) : (Rd m).amount (recvCell c p) 0 d = N := rfl

theorem card_others (c : Dev nD) : (Finset.univ.erase c : Finset (Dev nD)).card = 31 := by
  rw [Finset.card_erase_of_mem (Finset.mem_univ c), Finset.card_univ, Fintype.card_fin]; rfl

theorem expect_bar (c : Dev nD) : (Rd m).expect (barCell c) 0 = 31 := by
  unfold Schedule.expect Schedule.amountOf
  rw [duties_bar, Finset.sum_congr rfl fun d _ => amount_bar m c d, Finset.sum_const, card_others, smul_eq_mul]
theorem expect_send (c : Dev nD) (p : Fin 5) : (Rd m).expect (sendCell c p) 0 = 31 * N := by
  unfold Schedule.expect Schedule.amountOf
  rw [duties_send, Finset.sum_congr rfl fun d _ => amount_send m c d p, Finset.sum_const, card_others, smul_eq_mul]
theorem expect_recv (c : Dev nD) (p : Fin 5) : (Rd m).expect (recvCell c p) 0 = 31 * N := by
  unfold Schedule.expect Schedule.amountOf
  rw [duties_recv, Finset.sum_congr rfl fun d _ => amount_recv m c d p, Finset.sum_const, card_others, smul_eq_mul]

theorem payload_bar (c d : Dev nD) : (Rd m).payload (barCell c) 0 d = barPay (F := F) c d := rfl
theorem payload_send (c d : Dev nD) (p : Fin 5) : (Rd m).payload (sendCell c p) 0 d = sendPay m p.val c d := by
  show (if 13 ≤ (sendS p).val then recvPay m ((sendS p).val - 13) c d else sendPay m ((sendS p).val - 8) c d) = _
  rw [if_neg (by have := p.isLt; show ¬ 13 ≤ 8 + p.val; omega)]
  show sendPay m (8 + p.val - 8) c d = _
  rw [Nat.add_sub_cancel_left]
theorem payload_recv (c d : Dev nD) (p : Fin 5) : (Rd m).payload (recvCell c p) 0 d = recvPay m p.val c d := by
  show (if 13 ≤ (recvS p).val then recvPay m ((recvS p).val - 13) c d else sendPay m ((recvS p).val - 8) c d) = _
  rw [if_pos (by show 13 ≤ 13 + p.val; omega)]
  show recvPay m (13 + p.val - 13) c d = _
  rw [Nat.add_sub_cancel_left]

/-! ## What each device owes, and the levels -/

/-- The signals device `c` still owes from trip `k` on; the arrivals of exchange `p` it still owes from trip `k` on;
    those of exchanges `n`, `n + 1`, …; all it owes at launch. -/
def owedBar (c : Dev nD) (k : ℕ) : CellTallies nD τ sig Unit := ∑ t ∈ rem c k, tallyAt (barCell t) () 1
def owedP (c : Dev nD) (p : Fin 5) (k : ℕ) : CellTallies nD τ sig Unit := ∑ t ∈ rem c k, tallyAt (recvCell t p) () N
def rest (c : Dev nD) (n : ℕ) : CellTallies nD τ sig Unit :=
  ∑ q ∈ Finset.univ.filter (fun q : Fin 5 => n ≤ q.val), owedP c q 0
def O₀ (c : Dev nD) : CellTallies nD τ sig Unit := rest c 0 + owedBar c 0

theorem owedBar_step (c : Dev nD) (k : ℕ) (hk : k < 31) :
    owedBar c k = owedBar c (k + 1) + tallyAt (barCell (peer c k)) () 1 := by
  unfold owedBar; rw [rem_step c k hk, Finset.sum_insert (peer_notMem c k hk), add_comm]
theorem owedBar_last (c : Dev nD) : owedBar c 31 = 0 := by unfold owedBar; rw [rem_last, Finset.sum_empty]
theorem owedP_step (c : Dev nD) (p : Fin 5) (k : ℕ) (hk : k < 31) :
    owedP c p k = owedP c p (k + 1) + tallyAt (recvCell (peer c k) p) () N := by
  unfold owedP; rw [rem_step c k hk, Finset.sum_insert (peer_notMem c k hk), add_comm]
theorem owedP_last (c : Dev nD) (p : Fin 5) : owedP c p 31 = 0 := by unfold owedP; rw [rem_last, Finset.sum_empty]

theorem rest_step (c : Dev nD) (p : Fin 5) : rest c p.val = rest c (p.val + 1) + owedP c p 0 := by
  unfold rest
  have h : Finset.univ.filter (fun q : Fin 5 => p.val ≤ q.val)
      = insert p (Finset.univ.filter (fun q : Fin 5 => p.val + 1 ≤ q.val)) := by
    revert p; decide
  rw [h, Finset.sum_insert (by rw [Finset.mem_filter]; omega), add_comm]
theorem rest_last (c : Dev nD) : rest c 5 = 0 := by
  unfold rest
  rw [show Finset.univ.filter (fun q : Fin 5 => 5 ≤ q.val) = ∅ by decide, Finset.sum_empty]

def L (g : GSem nD τ sig) : Finset Unit := if g.1.2 = .tc then {()} else ∅
theorem L_of_ne (g : GSem nD τ sig) (h : g.1.2 ≠ .tc) : L g = ∅ := if_neg h
theorem L_tc (g : GSem nD τ sig) (i : Unit) (h : g.1.2 = .tc) : i ∈ L g := by
  unfold L; rw [if_pos h]; exact Finset.mem_singleton.mpr rfl
/-- Send semaphores and the launch's own lowest, then the barrier, then the receive semaphores in order. -/
def lv (g : GSem nD τ sig) (_ : Unit) : ℕ := match g.2 with
  | .reg _ => 1
  | .dma q => if 13 ≤ q.val then q.val - 11 else 0

theorem lv_recv (c : Dev nD) (p : Fin 5) : lv (recvCell c p) () = p.val + 2 := by
  show (if 13 ≤ 13 + p.val then 13 + p.val - 11 else 0) = _
  rw [if_pos (by omega)]; omega
theorem lv_send (c : Dev nD) (p : Fin 5) : lv (sendCell c p) () = 0 := by
  show (if 13 ≤ 8 + p.val then 8 + p.val - 11 else 0) = _
  rw [if_neg (by have := p.isLt; omega)]

theorem rest_pos {c : Dev nD} {n : ℕ} {g : GSem nD τ sig} {i : Unit} (h : 0 < rest c n g i) :
    g.1.2 = .tc ∧ n + 2 ≤ lv g i := by
  obtain ⟨q, hq, h1⟩ := Pipeline.sum_pos_exists h
  obtain ⟨t, -, h2⟩ := Pipeline.sum_pos_exists h1
  obtain ⟨rfl, rfl⟩ := Pipeline.tallyAt_pos h2
  rw [lv_recv]
  have := (Finset.mem_filter.mp hq).2
  exact ⟨rfl, by omega⟩
theorem O₀_pos {c : Dev nD} {g : GSem nD τ sig} {i : Unit} (h : 0 < O₀ c g i) : g.1.2 = .tc ∧ 1 ≤ lv g i := by
  rcases Pipeline.add_pos_cases h with h | h
  · have := rest_pos h; exact ⟨this.1, by omega⟩
  · obtain ⟨t, -, h2⟩ := Pipeline.sum_pos_exists h
    obtain ⟨rfl, rfl⟩ := Pipeline.tallyAt_pos h2
    exact ⟨rfl, le_refl _⟩

omit [FloatOps F] in
/-- A wait on a cell below every cell still owed is allowed. -/
theorem mayWait_rest (c : Dev nD) (s : SemLoc sig) (n : ℕ) (hs : lv ((c : Thread nD τ), s) () < n + 2) :
    (levAts L lv : sProp 𝕄) ⊢ MayWait (c : Thread nD τ) s () (rest c n) :=
  Pipeline.mayWait_of_levAts (L_tc _ _ rfl)
    fun g i h => ⟨L_tc g i (rest_pos h).1, lt_of_lt_of_le hs (rest_pos h).2⟩

omit [FloatOps F] in
/-- The launch's own waits, on semaphores of level 0, are allowed before the body runs. -/
theorem mayWait_launch (c : Dev nD) (s : SemLoc sig) (hs : lv ((c : Thread nD τ), s) () = 0) :
    (levAts L lv : sProp 𝕄) ⊢ MayWait (c : Thread nD τ) s () (O₀ c) :=
  Pipeline.mayWait_of_levAts (L_tc _ _ rfl)
    fun g i h => ⟨L_tc g i (O₀_pos h).1, by rw [hs]; exact (O₀_pos h).2⟩

end Cert.KernelIdealProof
-- ==== Proof.KernelIdeal.Trips.lean ====
/-
One trip of each kind of loop, at a symbolic device and trip: a barrier signal, a copy of an exchange, and the two
waits of an exchange's end. Each is stated as a step of the loop's invariant.
-/
module

public import proofs.«01_k».proof.Proof.KernelIdeal.Schedule
public import Idealize.ShloMosaic.Lib.SparseCore.ProtocolKit

@[expose] public section

noncomputable section

namespace Cert.KernelIdealProof

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 11 → ℕ)

/-- The kernel has no loop of unknown length. -/
abbrev 𝒱₀ : Variants := Variants.none

/-- A separating conjunction over a set with one more member, over two halves of a set, and of pairs. -/
theorem bigSep_insert' {I : Type} [DecidableEq I] {s : Finset I} {i : I} (hi : i ∉ s) {Φ : I → sProp 𝕄} :
    bigSep (insert i s) Φ = iprop(Φ i ∗ bigSep s Φ) := bigSep_insert hi
theorem bigSep_sdiff' {I : Type} [DecidableEq I] {s t : Finset I} (h : t ⊆ s) {Φ : I → sProp 𝕄} :
    bigSep s Φ = iprop(bigSep t Φ ∗ bigSep (s \ t) Φ) := bigSep_sdiff_split h
theorem bigSep_pair {I : Type} (s : Finset I) (Φ Ψ : I → sProp 𝕄) :
    bigSep s (fun i => iprop(Φ i ∗ Ψ i)) = iprop(bigSep s Φ ∗ bigSep s Ψ) := bigSep_sep s Φ Ψ

/-- The invariants of all the protocol's cells, under the names `K`, and that each has reached its round 0. -/
def records : sProp 𝕄 :=
  iprop((bigSep Finset.univ fun ck => cellInv ER (Rd m) (K ck) (kcell ck)) ∗ bigSep Finset.univ fun ck => reached ER (kcell ck) 0)

instance records_persistent : BI.Persistent (records m K) := by unfold records; infer_instance

theorem records_at (ck : Dev nD × Fin 11) :
    records m K ⊢ iprop(cellInv ER (Rd m) (K ck) (kcell ck) ∗ reached ER (kcell ck) 0) := by
  unfold records
  exact BIClass.sep_mono (bigSep_elim (Finset.mem_univ ck)) (bigSep_elim (Finset.mem_univ ck))
theorem records_bar (c : Dev nD) : records m K ⊢ iprop(cellInv ER (Rd m) (K (c, 0)) (barCell c) ∗ reached ER (barCell c) 0) :=
  records_at m K (c, 0)
theorem records_send (c : Dev nD) (p : Fin 5) :
    records m K ⊢ iprop(cellInv ER (Rd m) (K (c, sIdx p)) (sendCell c p) ∗ reached ER (sendCell c p) 0) := by
  have h := records_at m K (c, sIdx p); rw [kcell_send] at h; exact h
theorem records_recv (c : Dev nD) (p : Fin 5) :
    records m K ⊢ iprop(cellInv ER (Rd m) (K (c, rIdx p)) (recvCell c p) ∗ reached ER (recvCell c p) 0) := by
  have h := records_at m K (c, rIdx p); rw [kcell_recv] at h; exact h

/-- Everything device `c` knows for good: the records and the level facts. -/
def know : sProp 𝕄 := iprop(records m K ∗ levAts L lv)
instance know_persistent : BI.Persistent (know m K) := by unfold know; infer_instance
theorem know_rec : know m K ⊢ records m K := by unfold know; iintro ⟨H, -⟩; iexact H
theorem know_lev : know m K ⊢ levAts L lv := by unfold know; iintro ⟨-, H⟩; iexact H

/-- What device `c` still owes, whatever it has waited for. -/
def debt (c : Dev nD) (O : CellTallies nD τ sig Unit) : sProp 𝕄 := iprop(∃ W, owes (c : Thread nD τ) O W)

/-! ## The barrier's signals -/

/-- Before trip `k`: a signal's token and payload for every device still to be signalled, and the debt. -/
def SigInv (c : Dev nD) (k : ℕ) : sProp 𝕄 :=
  iprop(know m K ∗ (bigSep (rem c k) fun t => iprop(dutyTok ER (barCell t) 0 c ∗ barPay (F := F) t c)) ∗ debt c (rest c 0 + owedBar c k))

theorem signal_step (c n : Dev nD) (k : ℕ) (hk : k < 31) (hn : n = peer c k) (kw : ℕ) (hkw : kw = 1) :
    SigInv m K c k ⊢ wp frame (wpE (defs₀ (F := F)) 𝒱₀ (c : Thread nD τ) none) Set.univ
      (.op (.semSignal (Dev.tc n : Thread nD τ) barS kw) fun _ => .ret (⟨⟩ : PUnit)) (fun _ => SigInv m K c (k + 1)) := by
  subst hn hkw
  unfold SigInv debt
  rw [rem_step c k hk, bigSep_insert' (peer_notMem c k hk), owedBar_step c k hk, ← add_assoc]
  iintro ⟨#Hk, ⟨⟨Ht, Hp⟩, Hs⟩, ⟨%W, HO⟩⟩
  ihave Hr := (know_rec m K) $$ Hk
  ihave Hb := (records_bar m K (peer c k)) $$ Hr
  icases Hb with ⟨Hi, Hre⟩
  iapply (Rounds.wp_signal 𝒱₀ ER (Rd m) (c : Thread nD τ) none (dst := (Dev.tc (peer c k) : Thread nD τ)) (sem := barS)
      (r := 0) (d := c) (k' := 1) (κ := K (peer c k, 0))
      (by rw [duties_bar]; exact Finset.mem_erase.mpr ⟨(peer_ne c k hk).symm, Finset.mem_univ _⟩) rfl ()
      (rest c 0 + owedBar c (k + 1)) rfl) $$ [Hi HO Ht Hp Hre]
  · isplitl [Hi]; · iexact Hi
    isplitl [HO]; · iexact HO
    isplitl [Ht]; · iexact Ht
    isplitl [Hp]; · rw [payload_bar]; iexact Hp
    iexact Hre
  iintro HO
  rw [wp_ret]
  imodintro
  isplitr; · iexact Hk
  isplitl [Hs]; · iexact Hs
  iexists W; iexact HO

/-! ## The copies -/

/-- Before trip `k` of exchange `p`: for every device still to be served the two tokens, what the copy reads, the
    place it writes and what its arrival hands over beside; the debt; the credit of the copies already issued. -/
def SendInv (p : Fin 5) (c : Dev nD) (k : ℕ) : sProp 𝕄 :=
  iprop(know m K
    ∗ (bigSep (rem c k) fun t => iprop((dutyTok ER (sendCell c p) 0 t ∗ dutyTok ER (recvCell t p) 0 c)
        ∗ sendPay m p.val c t ∗ dstP (F := F) p.val t c ∗ extraP (F := F) p.val t c))
    ∗ debt c (rest c (p.val + 1) + owedP c p k) ∗ cred (tallyAt (sendCell c p) () (k * N)))

/-- A copy whose source and destination are the resources the schedule names: one step of `SendInv`. -/
theorem copy_step (p : Fin 5) (c n : Dev nD) (k : ℕ) (hk : k < 31) (hn : n = peer c k)
    {src dst : Memref sig .tc .vmem S16x256 .bf16} {sS sem : DmaSem sig} (hs : sS = sendS p) (hr : sem = recvS p)
    {hsc : (dst : Memref sig (Dev.tc n : Thread nD τ).2.kind .vmem S16x256 .bf16).view.ref.isScScratch = false}
    {hsrc : src.view.WordExact} {hdst : dst.view.WordExact}
    {hsem : DmaTarget.Typed .vmem (.dma sem) (.remote (Dev.tc n : Thread nD τ) dst (.dma sS) hsc)}
    (q : PosShare TreeShare) (fs : Buf (Elt F) (src.view.loc (c : Thread nD τ)))
    (hP : sendPay m p.val c (peer c k) = (src.view.loc (c : Thread nD τ) ↦[src.view.set]{q} fs : sProp 𝕄))
    (hD : dstP (F := F) p.val (peer c k) c ⊢ iprop(∃ fd, dst.view.loc (peer c k : Thread nD τ) ↦[dst.view.set]{fullShare} fd))
    (hL : ∀ fd, (dst.view.loc (peer c k : Thread nD τ) ↦[dst.view.set]{fullShare} dst.view.write (Elt F) fd (src.view.read (Elt F) fs) Finset.univ : sProp 𝕄)
      ⊢ landP m p.val (peer c k) c)
    (hN : dst.view.amount (SemLoc.dma (recvS p)) = N) :
    SendInv m K p c k ⊢ wp frame (wpE (defs₀ (F := F)) 𝒱₀ (c : Thread nD τ) none) Set.univ
      (.op (.enqueueDma src (.remote (Dev.tc n : Thread nD τ) dst (.dma sS) hsc) (.dma sem) hsrc hdst hsem) fun _ => .ret (⟨⟩ : PUnit))
      (fun _ => SendInv m K p c (k + 1)) := by
  subst hn hs hr
  unfold SendInv debt
  rw [rem_step c k hk, bigSep_insert' (peer_notMem c k hk), owedP_step c p k hk, ← add_assoc, hP,
    Rounds.cred_tallyAt_succ]
  iintro ⟨#Hk, ⟨⟨⟨Hts, Htr⟩, Hsrc, Hdst, Hex⟩, Hrest⟩, ⟨%W, HO⟩, Hc⟩
  ihave Hr := (know_rec m K) $$ Hk
  icases Hr with #Hr
  ihave Hb := (records_send m K c p) $$ Hr
  icases Hb with ⟨Hi1, Hr1⟩
  ihave Hb := (records_recv m K (peer c k) p) $$ Hr
  icases Hb with ⟨Hi2, Hr2⟩
  ihave Hd := hD $$ Hdst
  icases Hd with ⟨%fd, Hd⟩
  iapply (Rounds.wp_send_pointsTo_with 𝒱₀ ER (Rd m) (c : Thread nD τ) none (κ₁ := K (c, sIdx p)) (κ₂ := K (peer c k, rIdx p))
      (r₁ := 0) (r₂ := 0) (d₁ := peer c k) (d₂ := c) (fd := fd) (F := extraP (F := F) p.val (peer c k) c)
      (by rw [duties_send]; exact Finset.mem_erase.mpr ⟨peer_ne c k hk, Finset.mem_univ _⟩)
      (by rw [duties_recv]; exact Finset.mem_erase.mpr ⟨(peer_ne c k hk).symm, Finset.mem_univ _⟩)
      () () N hN (amount_send m c _ p) (amount_recv m _ c p) (rest c (p.val + 1) + owedP c p (k + 1)) rfl (W := W)
      (by rw [payload_send, hP])
      (by rw [payload_recv]; unfold recvPay; exact sep_mono_left (hL fd))) $$ [Hi1 Hi2 Hsrc Hd Hex HO Hts Hr1 Htr Hr2]
  · isplitl [Hi1]; · iexact Hi1
    isplitl [Hi2]; · iexact Hi2
    isplitl [Hsrc]; · iexact Hsrc
    isplitl [Hd Hex]
    · isplitl [Hd]; · iexact Hd
      iexact Hex
    isplitl [HO]; · iexact HO
    isplitl [Hts]; · iexact Hts
    isplitl [Hr1]; · iexact Hr1
    isplitl [Htr]; · iexact Htr
    iexact Hr2
  iintro ⟨Hcn, HO⟩
  rw [wp_ret]
  imodintro
  isplitr; · iexact Hk
  isplitl [Hrest]; · iexact Hrest
  isplitl [HO]; · iexists W; iexact HO
  isplitl [Hc]; · iexact Hc
  iexact Hcn

/-- A reduce-scatter copy: block `t` of the partial product into slot `c` of device `t`. -/
theorem copy_even (p : Fin 5) (hp : p.val % 2 = 0) (c n : Dev nD) (k : ℕ) (hk : k < 31) (hn : n = peer c k)
    {src dst : Memref sig .tc .vmem S16x256 .bf16} (hsE : src = accB (peer c k)) (hdE : dst = slotB c)
    {sS sem : DmaSem sig} (hs : sS = sendS p) (hr : sem = recvS p)
    {hsc : (dst : Memref sig (Dev.tc n : Thread nD τ).2.kind .vmem S16x256 .bf16).view.ref.isScScratch = false}
    {hsrc : src.view.WordExact} {hdst : dst.view.WordExact}
    {hsem : DmaTarget.Typed .vmem (.dma sem) (.remote (Dev.tc n : Thread nD τ) dst (.dma sS) hsc)} :
    SendInv m K p c k ⊢ wp frame (wpE (defs₀ (F := F)) 𝒱₀ (c : Thread nD τ) none) Set.univ
      (.op (.enqueueDma src (.remote (Dev.tc n : Thread nD τ) dst (.dma sS) hsc) (.dma sem) hsrc hdst hsem) fun _ => .ret (⟨⟩ : PUnit))
      (fun _ => SendInv m K p c (k + 1)) := by
  subst hsE hdE
  refine copy_step m K p c n k hk hn hs hr fullShare (accAt m p.val c) ?_ ?_ (fun fd => ?_) rfl
  · unfold sendPay accP; rw [if_pos hp, set_accB]
  · unfold dstP slotP; rw [if_pos hp, set_slotB]; exact Entails.refl _
  · unfold landP slotP; rw [if_pos hp, set_slotB]
    exact Entails.of_eq (pointsTo_congr (landed_slot (accAt m p.val) c (peer c k) fd))

/-- An all-gather copy: the own block of the activations into the same block of device `t`'s. -/
theorem copy_odd (p : Fin 5) (hp : ¬ p.val % 2 = 0) (c n : Dev nD) (k : ℕ) (hk : k < 31) (hn : n = peer c k)
    {src dst : Memref sig .tc .vmem S16x256 .bf16} (hsE : src = xB c) (hdE : dst = xB c)
    {sS sem : DmaSem sig} (hs : sS = sendS p) (hr : sem = recvS p)
    {hsc : (dst : Memref sig (Dev.tc n : Thread nD τ).2.kind .vmem S16x256 .bf16).view.ref.isScScratch = false}
    {hsrc : src.view.WordExact} {hdst : dst.view.WordExact}
    {hsem : DmaTarget.Typed .vmem (.dma sem) (.remote (Dev.tc n : Thread nD τ) dst (.dma sS) hsc)} :
    SendInv m K p c k ⊢ wp frame (wpE (defs₀ (F := F)) 𝒱₀ (c : Thread nD τ) none) Set.univ
      (.op (.enqueueDma src (.remote (Dev.tc n : Thread nD τ) dst (.dma sS) hsc) (.dma sem) hsrc hdst hsem) fun _ => .ret (⟨⟩ : PUnit))
      (fun _ => SendInv m K p c (k + 1)) := by
  subst hsE hdE
  refine copy_step m K p c n k hk hn hs hr (shr c (peer c k)) (actAt m p.val) ?_ ?_ (fun fd => ?_) rfl
  · unfold sendPay xbP; rw [if_neg hp, set_xB]
  · unfold dstP xbP; rw [if_neg hp, set_xB]; exact Entails.refl _
  · unfold landP xbP; rw [if_neg hp, set_xB]
    exact Entails.of_eq (pointsTo_congr (landed_x (actAt m p.val) c fd))

/-! ## The waits -/

/-- A cell of 31 duties after `k` waits of one block's credit each: some of its duties taken, their payloads held
    and the credit for the rest — after the last, the round over and all payloads held. -/
def WaitSt (g : GSem nD τ sig) (k : ℕ) : sProp 𝕄 :=
  if k < 31 then iprop(∃ S : Finset (Dev nD), ⌜S ⊆ (Rd m).duties g 0⌝ ∗ atPos ER g 0 S (k * N)
    ∗ (bigSep S fun d => (Rd m).payload g 0 d) ∗ cred (tallyAt g () ((31 - k) * N)))
  else iprop(atPos ER g 1 ∅ 0 ∗ bigSep ((Rd m).duties g 0) fun d => (Rd m).payload g 0 d)

theorem waitSt_zero (g : GSem nD τ sig) : iprop(atPos ER g 0 ∅ 0 ∗ cred (tallyAt g () (31 * N))) ⊢ WaitSt m g 0 := by
  unfold WaitSt
  rw [if_pos (by omega)]
  iintro ⟨Ha, Hc⟩
  iexists ∅
  isplitr; · ipureintro; exact Finset.empty_subset _
  rw [Nat.zero_mul, bigSep_empty]
  isplitl [Ha]; · iexact Ha
  isplitr; · iempintro
  iexact Hc

theorem waitSt_last (g : GSem nD τ sig) :
    WaitSt m g 31 = iprop(atPos ER g 1 ∅ 0 ∗ bigSep ((Rd m).duties g 0) fun d => (Rd m).payload g 0 d) := by
  unfold WaitSt; rw [if_neg (by omega)]

/-- One wait. -/
theorem wait_step (c : Dev nD) (sm : SemLoc sig) (κ k : ℕ) (hk : k < 31) (hexp : (Rd m).expect ((c : Thread nD τ), sm) 0 = 31 * N)
    {w : TpuEff nD τ sig (Elt F) Λ₀ .tc PUnit}
    (hw : ∀ Q : PUnit → sProp 𝕄, wpE (defs₀ (F := F)) 𝒱₀ (c : Thread nD τ) none Set.univ w Q = waitSpec (c : Thread nD τ) Set.univ sm N Q)
    (O : CellTallies nD τ sig Unit) {α : Type} {Q : α → sProp 𝕄} {kk : PUnit → Prog (TpuEff nD τ sig (Elt F) Λ₀ .tc) α} :
    iprop(cellInv ER (Rd m) κ ((c : Thread nD τ), sm) ∗ MayWait (c : Thread nD τ) sm () O ∗ debt c O ∗ WaitSt m ((c : Thread nD τ), sm) k)
      ⊢ iprop(((debt c O ∗ WaitSt m ((c : Thread nD τ), sm) (k + 1)) -∗ wp frame (wpE (defs₀ (F := F)) 𝒱₀ (c : Thread nD τ) none) Set.univ (kk ⟨⟩) Q)
        -∗ wp frame (wpE (defs₀ (F := F)) 𝒱₀ (c : Thread nD τ) none) Set.univ (.op w kk) Q) := by
  unfold WaitSt debt
  rw [if_pos hk, Rounds.cred_tallyAt_peel _ _ _ hk]
  by_cases hk' : k + 1 < 31
  · rw [if_pos hk']
    iintro ⟨Hi, Hm, ⟨%W, HO⟩, ⟨%S, %hS, Hat, Hp, Hc, Hcr⟩⟩ HK
    iapply (Rounds.wp_wait 𝒱₀ ER (Rd m) (c : Thread nD τ) none (κ := κ) (sm := sm) (k' := N) hw (Set.mem_univ _)
        (cr := Finsupp.single () N) (O := O) (W := W) {(sm, ())} (R := 0) (m := k * N) (T := S)
        (Util.total_single _ _) (image_single_subset sm () N)) $$ [Hi Hm HO Hat Hc]
    · isplitl [Hi]; · iexact Hi
      isplitl [Hc]; · iexact Hc
      isplitl [HO]; · iexact HO
      isplitl [Hm]; · iexact Hm
      iexact Hat
    iintro %S'
    iintro ⟨%hS', HO, Hat, Hp'⟩
    iapply HK
    isplitl [HO]; · iexists _; iexact HO
    iexists S'
    isplitr; · ipureintro; exact hS'.2.1
    rw [Nat.succ_mul, bigSep_sdiff' hS'.1]
    isplitl [Hat]; · iexact Hat
    isplitl [Hp Hp']
    · isplitl [Hp]; · iexact Hp
      iexact Hp'
    iexact Hcr
  · rw [if_neg hk']
    obtain rfl : k = 30 := by omega
    iintro ⟨Hi, Hm, ⟨%W, HO⟩, ⟨%S, %hS, Hat, Hp, Hc, Hcr⟩⟩ HK
    iapply (Rounds.wp_wait_rest_token 𝒱₀ ER (Rd m) (c : Thread nD τ) none (κ := κ) (sm := sm) (k' := N) hw (Set.mem_univ _)
        () (O := O) (W := W) (R := 0) (m := 30 * N) (T := S) (by rw [hexp]; omega)) $$ [Hi Hm HO Hat Hc]
    · isplitl [Hi]; · iexact Hi
      isplitl [Hc]; · iexact Hc
      isplitl [HO]; · iexact HO
      isplitl [Hm]; · iexact Hm
      iexact Hat
    iintro ⟨HO, Hat, -, Hp'⟩
    iapply HK
    isplitl [HO]; · iexists _; iexact HO
    isplitl [Hat]; · iexact Hat
    rw [bigSep_sdiff' hS]
    isplitl [Hp]; · iexact Hp
    iexact Hp'

/-- Before trip `k` of the waits of exchange `p`. -/
def WaitInv (p : Fin 5) (c : Dev nD) (k : ℕ) : sProp 𝕄 :=
  iprop(know m K ∗ debt c (rest c (p.val + 1)) ∗ WaitSt m (sendCell c p) k ∗ WaitSt m (recvCell c p) k)

/-- A trip of an exchange's waits: one block left, one block arrived. -/
theorem waits_step (p : Fin 5) (c : Dev nD) (k : ℕ) (hk : k < 31)
    {s₁ s₂ d₁ d₂ : Memref sig .tc .vmem S16x256 .bf16} (h₁ : d₁.view.dmaCredit = N) (h₂ : d₂.view.dmaCredit = N)
    {sS sem : DmaSem sig} (hs : sS = sendS p) (hr : sem = recvS p)
    {a₁ : s₁.view.WordExact} {b₁ : d₁.view.WordExact} {a₂ : s₂.view.WordExact} {b₂ : d₂.view.WordExact} :
    WaitInv m K p c k ⊢ wp frame (wpE (defs₀ (F := F)) 𝒱₀ (c : Thread nD τ) none) Set.univ
      (.op (.waitDma2 sS s₁ d₁ a₁ b₁) fun _ => .op (.waitDma2 sem s₂ d₂ a₂ b₂) fun _ => .ret (⟨⟩ : PUnit))
      (fun _ => WaitInv m K p c (k + 1)) := by
  subst hs hr
  unfold WaitInv know
  iintro ⟨⟨#Hrec, #Hlev⟩, HO, Hs, Hr⟩
  ihave Hb := (records_send m K c p) $$ Hrec
  icases Hb with ⟨Hi1, -⟩
  ihave Hb := (records_recv m K c p) $$ Hrec
  icases Hb with ⟨Hi2, -⟩
  ihave Hm1 := (mayWait_rest c (.dma (sendS p)) (p.val + 1) (by rw [lv_send]; omega)) $$ Hlev
  ihave Hm2 := (mayWait_rest c (.dma (recvS p)) (p.val + 1) (by rw [lv_recv]; omega)) $$ Hlev
  iapply (wait_step m c (.dma (sendS p)) (K (c, sIdx p)) k hk (expect_send m c p)
    (fun Q => (wpE_waitDma2_eq 𝒱₀ (c : Thread nD τ) none Set.univ Q).trans (congrArg (fun x => waitSpec (c : Thread nD τ) Set.univ (.dma (sendS p)) x Q) h₁)) (rest c (p.val + 1))) $$ [Hi1 Hm1 HO Hs]
  · isplitl [Hi1]; · iexact Hi1
    isplitl [Hm1]; · iexact Hm1
    isplitl [HO] <;> iassumption
  iintro ⟨HO, Hs⟩
  iapply (wait_step m c (.dma (recvS p)) (K (c, rIdx p)) k hk (expect_recv m c p)
    (fun Q => (wpE_waitDma2_eq 𝒱₀ (c : Thread nD τ) none Set.univ Q).trans (congrArg (fun x => waitSpec (c : Thread nD τ) Set.univ (.dma (recvS p)) x Q) h₂)) (rest c (p.val + 1))) $$ [Hi2 Hm2 HO Hr]
  · isplitl [Hi2]; · iexact Hi2
    isplitl [Hm2]; · iexact Hm2
    isplitl [HO] <;> iassumption
  iintro ⟨HO, Hr⟩
  rw [wp_ret]
  imodintro
  isplitr
  · isplitr; · iexact Hrec
    iexact Hlev
  isplitl [HO]; · iexact HO
  isplitl [Hs] <;> iassumption

end Cert.KernelIdealProof
-- ==== Proof.KernelIdeal.Loops.lean ====
/-
The eleven counted loops of the body, each trip a step of its invariant: the barrier's signals; for each of the five
exchanges the copies and the waits. The trip's device, block and slot are the ones the protocol names.
-/
module

public import proofs.«01_k».proof.Proof.KernelIdeal.Trips

@[expose] public section

noncomputable section

namespace Cert.KernelIdealProof

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 11 → ℕ) (c : Dev nD)
variable
  (arg0 : Memref sig .tc .vmem S512x256 .f32) (harg0 : arg0.IsWhole)
  (arg1 : Memref sig .tc .vmem S256x512 .f32) (harg1 : arg1.IsWhole)
  (arg2 : Memref sig .tc .vmem S512x256 .f32) (harg2 : arg2.IsWhole)
  (arg3 : Memref sig .tc .vmem S256x512 .f32) (harg3 : arg3.IsWhole)
  (arg4 : Memref sig .tc .vmem S512x256 .f32) (harg4 : arg4.IsWhole)
  (arg5 : Memref sig .tc .vmem S256x512 .f32) (harg5 : arg5.IsWhole)
  (arg6 : Memref sig .tc .vmem S512x256 .f32) (harg6 : arg6.IsWhole)
  (arg7 : Memref sig .tc .vmem S16x256 .f32) (harg7 : arg7.IsWhole)
  (hA : (accM : Memref sig .tc .vmem S512x256 .bf16).IsWhole) (hR : (rsM : Memref sig .tc .vmem S32x16x256 .bf16).IsWhole)
  (hX : (xbM : Memref sig .tc .vmem S512x256 .bf16).IsWhole) (v2 : BitVec 32) (v26 : Vec F S16x256 .bf16) (v55 : FVec F S512x256 .bf16)

theorem t1_trips : k0_t1_loop.trips = 31 := by decide
/-- Trip of the loop that signals the barrier. -/
theorem t1_step (k : Fin k0_t1_loop.trips) (acc : Unit) :
    SigInv m K c k.val ⊢ wp frame (wpE (defs₀ (F := F)) 𝒱₀ (c : Thread nD τ) none) Set.univ
      (k0_t1_body arg0 harg0 arg1 harg1 arg2 harg2 arg3 harg3 arg4 harg4 arg5 harg5 arg6 harg6 arg7 harg7 accM hA rsM hR xbM hX cc0_scratch3 cc0_scratch4 c (SemArray.scalar (sig.barrier 0 rfl)) k acc)
      (fun _ => SigInv m K c (k.val + 1)) := by
  have hk : k.val < 31 := Nat.lt_of_lt_of_le k.isLt k0_t1_abs.2.1
  unfold k0_t1_body
  simp only [semSignalWord, Prog.lift, Prog.bind_op, Prog.bind_ret, Prog.pure_eq_ret]
  exact signal_step m K c _ k.val hk (Fin.ext (k0_dev1_eq c k)) _ (by decide)

theorem t2_trips : k0_t2_loop.trips = 31 := by decide
/-- Trip of exchange 0's copies (reduce-scatter). -/
theorem t2_step (k : Fin k0_t2_loop.trips) (acc : Unit) :
    SendInv m K 0 c k.val ⊢ wp frame (wpE (defs₀ (F := F)) 𝒱₀ (c : Thread nD τ) none) Set.univ
      (k0_t2_body arg0 harg0 arg1 harg1 arg2 harg2 arg3 harg3 arg4 harg4 arg5 harg5 arg6 harg6 arg7 harg7 accM hA rsM hR xbM hX cc0_scratch3 cc0_scratch4 c k acc)
      (fun _ => SendInv m K 0 c (k.val + 1)) := by
  have hk : k.val < 31 := Nat.lt_of_lt_of_le k.isLt k0_t2_abs.2.1
  unfold k0_t2_body
  simp only [semSignalWord, Prog.lift, Prog.bind_op, Prog.bind_ret, Prog.pure_eq_ret]
  exact copy_even m K 0 rfl c _ k.val hk (Fin.ext (k0_dev2_eq c k)) (slice_eq_accB (peer c k.val) (k0_off2_eq c k) _)
    (slice_eq_slotB c (k0_off1_eq c) _) rfl rfl

theorem t3_trips : k0_t3_loop.trips = 31 := by decide
/-- Trip of exchange 0's waits. -/
theorem t3_step (k : Fin k0_t3_loop.trips) (acc : Unit) :
    WaitInv m K 0 c k.val ⊢ wp frame (wpE (defs₀ (F := F)) 𝒱₀ (c : Thread nD τ) none) Set.univ
      (k0_t3_body arg0 harg0 arg1 harg1 arg2 harg2 arg3 harg3 arg4 harg4 arg5 harg5 arg6 harg6 arg7 harg7 accM hA rsM hR xbM hX cc0_scratch3 cc0_scratch4 c v2 v26 k acc)
      (fun _ => WaitInv m K 0 c (k.val + 1)) := by
  have hk : k.val < 31 := Nat.lt_of_lt_of_le k.isLt k0_t3_abs.2.1
  unfold k0_t3_body
  simp only [semSignalWord, Prog.lift, Prog.bind_op, Prog.bind_ret, Prog.pure_eq_ret]
  refine waits_step m K 0 c k.val hk ?_ ?_ rfl rfl
  · rw [slice_eq_accB (peer c k.val) (k0_off5_eq c k)]
  · rw [slice_eq_slotB (peer c k.val) (k0_off7_eq c k)]

theorem t4_trips : k0_t4_loop.trips = 31 := by decide
/-- Trip of exchange 1's copies (all-gather). -/
theorem t4_step (k : Fin k0_t4_loop.trips) (acc : Unit) :
    SendInv m K 1 c k.val ⊢ wp frame (wpE (defs₀ (F := F)) 𝒱₀ (c : Thread nD τ) none) Set.univ
      (k0_t4_body arg0 harg0 arg1 harg1 arg2 harg2 arg3 harg3 arg4 harg4 arg5 harg5 arg6 harg6 arg7 harg7 accM hA rsM hR xbM hX cc0_scratch3 cc0_scratch4 c v2 v26 k acc)
      (fun _ => SendInv m K 1 c (k.val + 1)) := by
  have hk : k.val < 31 := Nat.lt_of_lt_of_le k.isLt k0_t4_abs.2.1
  unfold k0_t4_body
  simp only [semSignalWord, Prog.lift, Prog.bind_op, Prog.bind_ret, Prog.pure_eq_ret]
  exact copy_odd m K 1 (by decide) c _ k.val hk (Fin.ext (k0_dev3_eq c k)) (slice_eq_xB c (k0_off8_eq c) _)
    (slice_eq_xB c (k0_off8_eq c) _) rfl rfl

theorem t5_trips : k0_t5_loop.trips = 31 := by decide
/-- Trip of exchange 1's waits. -/
theorem t5_step (k : Fin k0_t5_loop.trips) (acc : Unit) :
    WaitInv m K 1 c k.val ⊢ wp frame (wpE (defs₀ (F := F)) 𝒱₀ (c : Thread nD τ) none) Set.univ
      (k0_t5_body arg0 harg0 arg1 harg1 arg2 harg2 arg3 harg3 arg4 harg4 arg5 harg5 arg6 harg6 arg7 harg7 accM hA rsM hR xbM hX cc0_scratch3 cc0_scratch4 c v2 v26 k acc)
      (fun _ => WaitInv m K 1 c (k.val + 1)) := by
  have hk : k.val < 31 := Nat.lt_of_lt_of_le k.isLt k0_t5_abs.2.1
  unfold k0_t5_body
  simp only [semSignalWord, Prog.lift, Prog.bind_op, Prog.bind_ret, Prog.pure_eq_ret]
  refine waits_step m K 1 c k.val hk ?_ ?_ rfl rfl
  · rw [slice_eq_xB c (k0_off9_eq c)]
  · rw [slice_eq_xB (peer c k.val) (k0_off10_eq c k)]

theorem t6_trips : k0_t6_loop.trips = 31 := by decide
/-- Trip of exchange 2's copies (reduce-scatter). -/
theorem t6_step (k : Fin k0_t6_loop.trips) (acc : Unit) :
    SendInv m K 2 c k.val ⊢ wp frame (wpE (defs₀ (F := F)) 𝒱₀ (c : Thread nD τ) none) Set.univ
      (k0_t6_body arg0 harg0 arg1 harg1 arg2 harg2 arg3 harg3 arg4 harg4 arg5 harg5 arg6 harg6 arg7 harg7 accM hA rsM hR xbM hX cc0_scratch3 cc0_scratch4 c v2 v55 k acc)
      (fun _ => SendInv m K 2 c (k.val + 1)) := by
  have hk : k.val < 31 := Nat.lt_of_lt_of_le k.isLt k0_t6_abs.2.1
  unfold k0_t6_body
  simp only [semSignalWord, Prog.lift, Prog.bind_op, Prog.bind_ret, Prog.pure_eq_ret]
  exact copy_even m K 2 rfl c _ k.val hk (Fin.ext (k0_dev4_eq c k)) (slice_eq_accB (peer c k.val) (k0_off12_eq c k) _)
    (slice_eq_slotB c (k0_off11_eq c) _) rfl rfl

theorem t7_trips : k0_t7_loop.trips = 31 := by decide
/-- Trip of exchange 2's waits. -/
theorem t7_step (k : Fin k0_t7_loop.trips) (acc : Unit) :
    WaitInv m K 2 c k.val ⊢ wp frame (wpE (defs₀ (F := F)) 𝒱₀ (c : Thread nD τ) none) Set.univ
      (k0_t7_body arg0 harg0 arg1 harg1 arg2 harg2 arg3 harg3 arg4 harg4 arg5 harg5 arg6 harg6 arg7 harg7 accM hA rsM hR xbM hX cc0_scratch3 cc0_scratch4 c v2 v55 k acc)
      (fun _ => WaitInv m K 2 c (k.val + 1)) := by
  have hk : k.val < 31 := Nat.lt_of_lt_of_le k.isLt k0_t7_abs.2.1
  unfold k0_t7_body
  simp only [semSignalWord, Prog.lift, Prog.bind_op, Prog.bind_ret, Prog.pure_eq_ret]
  refine waits_step m K 2 c k.val hk ?_ ?_ rfl rfl
  · rw [slice_eq_accB (peer c k.val) (k0_off13_eq c k)]
  · rw [slice_eq_slotB (peer c k.val) (k0_off15_eq c k)]

theorem t8_trips : k0_t8_loop.trips = 31 := by decide
/-- Trip of exchange 3's copies (all-gather). -/
theorem t8_step (k : Fin k0_t8_loop.trips) (acc : Unit) :
    SendInv m K 3 c k.val ⊢ wp frame (wpE (defs₀ (F := F)) 𝒱₀ (c : Thread nD τ) none) Set.univ
      (k0_t8_body arg0 harg0 arg1 harg1 arg2 harg2 arg3 harg3 arg4 harg4 arg5 harg5 arg6 harg6 arg7 harg7 accM hA rsM hR xbM hX cc0_scratch3 cc0_scratch4 c v2 v55 k acc)
      (fun _ => SendInv m K 3 c (k.val + 1)) := by
  have hk : k.val < 31 := Nat.lt_of_lt_of_le k.isLt k0_t8_abs.2.1
  unfold k0_t8_body
  simp only [semSignalWord, Prog.lift, Prog.bind_op, Prog.bind_ret, Prog.pure_eq_ret]
  exact copy_odd m K 3 (by decide) c _ k.val hk (Fin.ext (k0_dev5_eq c k)) (slice_eq_xB c (k0_off16_eq c) _)
    (slice_eq_xB c (k0_off16_eq c) _) rfl rfl

theorem t9_trips : k0_t9_loop.trips = 31 := by decide
/-- Trip of exchange 3's waits. -/
theorem t9_step (k : Fin k0_t9_loop.trips) (acc : Unit) :
    WaitInv m K 3 c k.val ⊢ wp frame (wpE (defs₀ (F := F)) 𝒱₀ (c : Thread nD τ) none) Set.univ
      (k0_t9_body arg0 harg0 arg1 harg1 arg2 harg2 arg3 harg3 arg4 harg4 arg5 harg5 arg6 harg6 arg7 harg7 accM hA rsM hR xbM hX cc0_scratch3 cc0_scratch4 c v2 v55 k acc)
      (fun _ => WaitInv m K 3 c (k.val + 1)) := by
  have hk : k.val < 31 := Nat.lt_of_lt_of_le k.isLt k0_t9_abs.2.1
  unfold k0_t9_body
  simp only [semSignalWord, Prog.lift, Prog.bind_op, Prog.bind_ret, Prog.pure_eq_ret]
  refine waits_step m K 3 c k.val hk ?_ ?_ rfl rfl
  · rw [slice_eq_xB c (k0_off17_eq c)]
  · rw [slice_eq_xB (peer c k.val) (k0_off18_eq c k)]

theorem t10_trips : k0_t10_loop.trips = 31 := by decide
/-- Trip of exchange 4's copies (reduce-scatter). -/
theorem t10_step (k : Fin k0_t10_loop.trips) (acc : Unit) :
    SendInv m K 4 c k.val ⊢ wp frame (wpE (defs₀ (F := F)) 𝒱₀ (c : Thread nD τ) none) Set.univ
      (k0_t10_body arg0 harg0 arg1 harg1 arg2 harg2 arg3 harg3 arg4 harg4 arg5 harg5 arg6 harg6 arg7 harg7 accM hA rsM hR xbM hX cc0_scratch3 cc0_scratch4 c v2 k acc)
      (fun _ => SendInv m K 4 c (k.val + 1)) := by
  have hk : k.val < 31 := Nat.lt_of_lt_of_le k.isLt k0_t10_abs.2.1
  unfold k0_t10_body
  simp only [semSignalWord, Prog.lift, Prog.bind_op, Prog.bind_ret, Prog.pure_eq_ret]
  exact copy_even m K 4 rfl c _ k.val hk (Fin.ext (k0_dev6_eq c k)) (slice_eq_accB (peer c k.val) (k0_off20_eq c k) _)
    (slice_eq_slotB c (k0_off19_eq c) _) rfl rfl

theorem t11_trips : k0_t11_loop.trips = 31 := by decide
/-- Trip of exchange 4's waits. -/
theorem t11_step (k : Fin k0_t11_loop.trips) (acc : Unit) :
    WaitInv m K 4 c k.val ⊢ wp frame (wpE (defs₀ (F := F)) 𝒱₀ (c : Thread nD τ) none) Set.univ
      (k0_t11_body arg0 harg0 arg1 harg1 arg2 harg2 arg3 harg3 arg4 harg4 arg5 harg5 arg6 harg6 arg7 harg7 accM hA rsM hR xbM hX cc0_scratch3 cc0_scratch4 c v2 k acc)
      (fun _ => WaitInv m K 4 c (k.val + 1)) := by
  have hk : k.val < 31 := Nat.lt_of_lt_of_le k.isLt k0_t11_abs.2.1
  unfold k0_t11_body
  simp only [semSignalWord, Prog.lift, Prog.bind_op, Prog.bind_ret, Prog.pure_eq_ret]
  refine waits_step m K 4 c k.val hk ?_ ?_ rfl rfl
  · rw [slice_eq_accB (peer c k.val) (k0_off21_eq c k)]
  · rw [slice_eq_slotB (peer c k.val) (k0_off23_eq c k)]

end Cert.KernelIdealProof
-- ==== Proof.KernelIdeal.Stages.lean ====
/-
Between the loops: how a device's buffers are cut into the blocks an exchange sends and receives and put together
again, how an exchange's copies begin from what the device holds, its waits from the copies, and what the waits
leave; and what storing the own block and the own slot leaves.
-/
module

public import proofs.«01_k».proof.Proof.KernelIdeal.Loops

@[expose] public section

noncomputable section

namespace Cert.KernelIdealProof

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 11 → ℕ) (c : Dev nD)

/-! ## Whole buffers and their blocks -/

def accAll (f : Vec F S512x256 .bf16) : sProp 𝕄 := ((c : Thread nD τ).loc cc0_scratch0) ↦{fullShare} f
def rsAll (f : Vec F S32x16x256 .bf16) : sProp 𝕄 := ((c : Thread nD τ).loc cc0_scratch1) ↦{fullShare} f
def xbAll (f : Vec F S512x256 .bf16) : sProp 𝕄 := ((c : Thread nD τ).loc cc0_scratch2) ↦{fullShare} f

/-- All devices but one. -/
abbrev others : Finset (Dev nD) := Finset.univ.erase c

omit [FloatOps F] in
theorem accAll_eq (f : Vec F S512x256 .bf16) :
    (accAll c f : sProp 𝕄) = iprop(accP c c f ∗ bigSep (others c) fun t => accP c t f) := by
  rw [← bigSep_univ_at (fun t => accP c t f) c]
  exact Ring.pointsTo_blocks (Ix := Unit) (Name := ℕ) (U := UU) (Lvl := ℕ) (Val := Elt F) (q := fullShare) (ℓ := (c : Thread nD τ).loc cc0_scratch0) rowsSet rows_disj
    (Finset.eq_univ_iff_forall.mpr fun i => Finset.mem_biUnion.mpr (Finset.mem_biUnion.mp (rows_cover.symm ▸ Finset.mem_univ i))) f
omit [FloatOps F] in
theorem rsAll_eq (f : Vec F S32x16x256 .bf16) :
    (rsAll c f : sProp 𝕄) = iprop(slotP c c f ∗ bigSep (others c) fun t => slotP c t f) := by
  rw [← bigSep_univ_at (fun t => slotP c t f) c]
  exact Ring.pointsTo_blocks (Ix := Unit) (Name := ℕ) (U := UU) (Lvl := ℕ) (Val := Elt F) (q := fullShare) (ℓ := (c : Thread nD τ).loc cc0_scratch1) slotSet slot_disj
    (Finset.eq_univ_iff_forall.mpr fun i => Finset.mem_biUnion.mpr (Finset.mem_biUnion.mp (slot_cover.symm ▸ Finset.mem_univ i))) f
omit [FloatOps F] in
theorem xbAll_eq (f : Vec F S512x256 .bf16) :
    (xbAll c f : sProp 𝕄) = iprop(xbP c c fullShare f ∗ bigSep (others c) fun t => xbP c t fullShare f) := by
  rw [← bigSep_univ_at (fun t => xbP c t fullShare f) c]
  exact Ring.pointsTo_blocks (Ix := Unit) (Name := ℕ) (U := UU) (Lvl := ℕ) (Val := Elt F) (q := fullShare) (ℓ := (c : Thread nD τ).loc cc0_scratch2) rowsSet rows_disj
    (Finset.eq_univ_iff_forall.mpr fun i => Finset.mem_biUnion.mpr (Finset.mem_biUnion.mp (rows_cover.symm ▸ Finset.mem_univ i))) f

omit [FloatOps F] in
/-- The own block of activations, in the shares the copies to the others read it at. -/
theorem xbP_deal (f : Vec F S512x256 .bf16) :
    (xbP c c fullShare f : sProp 𝕄) = bigSep (others c) fun t => xbP c c (shr c t) f :=
  Transfers.pointsTo_deal (others c) (Finset.card_pos.mp (by rw [card_others]; decide)) fullShare

omit [FloatOps F] in
theorem slot_to_dst (p : ℕ) (hp : p % 2 = 0) (f : Vec F S32x16x256 .bf16) :
    (bigSep (others c) fun t => slotP c t f : sProp 𝕄) ⊢ bigSep (others c) fun t => dstP (F := F) p c t :=
  bigSep_mono fun t _ => (by
    unfold dstP; rw [if_pos hp]; iintro H; iexists f; iexact H : (slotP c t f : sProp 𝕄) ⊢ dstP (F := F) p c t)
omit [FloatOps F] in
theorem xb_to_dst (p : ℕ) (hp : ¬ p % 2 = 0) (f : Vec F S512x256 .bf16) :
    (bigSep (others c) fun t => xbP c t fullShare f : sProp 𝕄) ⊢ bigSep (others c) fun t => dstP (F := F) p c t :=
  bigSep_mono fun t _ => (by
    unfold dstP; rw [if_neg hp]; iintro H; iexists f; iexact H : (xbP c t fullShare f : sProp 𝕄) ⊢ dstP (F := F) p c t)

/-- What an even exchange sends and what it lands, all of it; what an odd one does. -/
theorem sends_even (p : ℕ) (hp : p % 2 = 0) :
    (bigSep (others c) fun t => sendPay m p c t) = bigSep (others c) fun t => accP c t (accAt m p c) :=
  bigSep_congr fun t _ => by unfold sendPay; rw [if_pos hp]
theorem lands_even (p : ℕ) (hp : p % 2 = 0) :
    (bigSep (others c) fun t => landP m p c t) = bigSep (others c) fun t => slotP c t (slotsOf (accAt m p) c) :=
  bigSep_congr fun t _ => by unfold landP; rw [if_pos hp]
theorem sends_odd (p : ℕ) (hp : ¬ p % 2 = 0) :
    (bigSep (others c) fun t => sendPay m p c t) = xbP c c fullShare (actAt m p) := by
  rw [xbP_deal]; exact bigSep_congr fun t _ => by unfold sendPay; rw [if_neg hp]
theorem lands_odd (p : ℕ) (hp : ¬ p % 2 = 0) :
    (bigSep (others c) fun t => landP m p c t) = bigSep (others c) fun t => xbP c t fullShare (actAt m p) :=
  bigSep_congr fun t _ => by unfold landP; rw [if_neg hp]

/-! ## An exchange's beginning and end -/

/-- What device `c` has for exchange `p` before it: its positions, the credit of the arrivals, the tokens. -/
def Before (p : Fin 5) : sProp 𝕄 :=
  iprop(atPos ER (sendCell c p) 0 ∅ 0 ∗ atPos ER (recvCell c p) 0 ∅ 0 ∗ cred (tallyAt (recvCell c p) () (31 * N)))
/-- The tokens of exchange `p`'s copies. -/
def Toks (p : Fin 5) : sProp 𝕄 :=
  bigSep (others c) fun t => iprop(dutyTok ER (sendCell c p) 0 t ∗ dutyTok ER (recvCell t p) 0 c)
/-- After it: its positions, a round on. -/
def After (p : Fin 5) : sProp 𝕄 := iprop(atPos ER (sendCell c p) 1 ∅ 0 ∗ atPos ER (recvCell c p) 1 ∅ 0)

/-- The places on the others exchange `p`'s copies write; the places on `c` the others' copies of exchange `p` write. -/
def Dsts (p : ℕ) : sProp 𝕄 := bigSep (others c) fun t => dstP (F := F) p t c
def Own (p : ℕ) : sProp 𝕄 := bigSep (others c) fun t => dstP (F := F) p c t

/-- The copies begin. -/
theorem send_enter (p : Fin 5) :
    iprop(know m K ∗ Toks (F := F) c p ∗ (bigSep (others c) fun t => sendPay m p.val c t) ∗ Dsts (F := F) c p.val
        ∗ (bigSep (others c) fun t => extraP (F := F) p.val t c) ∗ debt c (rest c p.val))
      ⊢ SendInv m K p c 0 := by
  unfold SendInv Toks Dsts
  rw [rem_zero, Nat.zero_mul, tallyAt_zero, cred_zero, rest_step,
    bigSep_pair (others c) (fun t => iprop(dutyTok ER (sendCell c p) 0 t ∗ dutyTok ER (recvCell t p) 0 c)),
    bigSep_pair (others c) (fun t => sendPay m p.val c t), bigSep_pair (others c) (fun t => dstP (F := F) p.val t c)]
  iintro ⟨Hk, Ht, Hs, Hd, He, HO⟩
  isplitl [Hk]; · iexact Hk
  isplitl [Ht Hs Hd He]
  · isplitl [Ht]; · iexact Ht
    isplitl [Hs]; · iexact Hs
    isplitl [Hd] <;> iassumption
  isplitl [HO]; · iexact HO
  iempintro

omit [FloatOps F] in
/-- In exchanges 1, 2, 3 an arrival hands over the place the receiver's next copy writes; in 0 and 4 nothing. -/
theorem extras_mid (p : ℕ) (hp : 1 ≤ p ∧ p ≤ 3) :
    (bigSep (others c) fun t => extraP (F := F) p t c) = Own (F := F) c (p + 1) :=
  bigSep_congr fun t _ => by unfold extraP; rw [if_pos hp]
omit [FloatOps F] in
theorem extras_got (p : ℕ) (hp : 1 ≤ p ∧ p ≤ 3) :
    (bigSep (others c) fun t => extraP (F := F) p c t) = Dsts (F := F) c (p + 1) :=
  bigSep_congr fun t _ => by unfold extraP; rw [if_pos hp]
omit [FloatOps F] in
theorem extras_none (p : ℕ) (hp : ¬ (1 ≤ p ∧ p ≤ 3)) :
    (iprop(emp) : sProp 𝕄) ⊢ bigSep (others c) fun t => extraP (F := F) p t c :=
  (bigSep_of_persistent (others c) (iprop(emp) : sProp 𝕄)).trans (Entails.of_eq (bigSep_congr fun t _ => by unfold extraP; rw [if_neg hp]))

/-- The copies issued, the waits begin. -/
theorem send_leave (p : Fin 5) : iprop(SendInv m K p c 31 ∗ Before (F := F) c p) ⊢ WaitInv m K p c 0 := by
  unfold SendInv WaitInv Before
  rw [owedP_last, add_zero]
  iintro ⟨⟨Hk, -, HO, Hc⟩, Hs, Hr, Hcr⟩
  isplitl [Hk]; · iexact Hk
  isplitl [HO]; · iexact HO
  isplitl [Hs Hc]
  · iapply (waitSt_zero m (sendCell c p))
    isplitl [Hs] <;> iassumption
  iapply (waitSt_zero m (recvCell c p))
  isplitl [Hr] <;> iassumption

/-- The waits done: what was sent is back, what the others sent has landed. -/
theorem wait_leave (p : Fin 5) :
    WaitInv m K p c 31 ⊢ iprop(know m K ∗ debt c (rest c (p.val + 1)) ∗ After (F := F) c p
      ∗ (bigSep (others c) fun t => sendPay m p.val c t) ∗ (bigSep (others c) fun t => landP m p.val c t)
      ∗ (bigSep (others c) fun t => extraP (F := F) p.val c t)) := by
  unfold WaitInv After
  rw [waitSt_last, waitSt_last, duties_send, duties_recv, bigSep_congr fun d _ => payload_send m c d p,
    bigSep_congr fun d _ => payload_recv m c d p]
  unfold recvPay
  rw [bigSep_pair (others c) (fun t => landP m p.val c t)]
  iintro ⟨Hk, HO, ⟨Ha, Hs⟩, ⟨Hb, Hl, He⟩⟩
  isplitl [Hk]; · iexact Hk
  isplitl [HO]; · iexact HO
  isplitl [Ha Hb]; · isplitl [Ha] <;> iassumption
  isplitl [Hs]; · iexact Hs
  isplitl [Hl] <;> iassumption

/-! ## Reads and writes -/

omit [FloatOps F] in
theorem hz2 : (![0, 0] : Fin 2 → ℕ) = fun _ => 0 := funext fun a => by fin_cases a <;> rfl
omit [FloatOps F] in
theorem hz3 : (![0, 0, 0] : Fin 3 → ℕ) = fun _ => 0 := funext fun a => by fin_cases a <;> rfl

/-- Block `c` of the partial product stored in slot `c`, as the blocks that arrive are in theirs. -/
theorem own_slot (A : Dev nD → Vec F S512x256 .bf16) (fd : Vec F S32x16x256 .bf16) {o₁ : Fin 2 → ℕ} {o₂ : Fin 3 → ℕ}
    (h₁ : o₁ = ![16 * c.val, 0]) (h₂ : o₂ = ![c.val, 0, 0]) (i₁) (i₂) :
    ∀ i ∈ slotSet c, (rsM.access (Rect.unit (s := S32x16x256) o₂ S1x16x256.size i₂) : View sig .tc _ _ _).write (Elt F) fd
      (k0_pay2 (accM.view.readAt (Elt F) (Rect.unit (s := S512x256) o₁ S16x256.size i₁).toLoadRect (A c))) Finset.univ i = slotsOf A c i := by
  subst h₁ h₂
  intro i hi
  rw [show slotSet c = (rsM.access (slotR c) : View sig .tc _ _ _).set from (View.set_slice_whole _ _).symm] at hi
  obtain ⟨x, -, rfl⟩ := Finset.mem_map.mp hi
  obtain ⟨u, r, l, rfl⟩ : ∃ (u : Fin 1) (r : Fin 16) (l : Fin 256), x = ix3 u r l := ⟨x 0, x 1, x 2, eq_ix3 x⟩
  refine (View.write_emb_of_mem (v := (rsM.access (slotR c) : View sig .tc _ _ _)) fd _ (Finset.mem_univ (ix3 u r l))).trans ?_
  show A c ((rowsR c).emb (Shape.reshapeEquiv _ (ix3 u r l : S1x16x256.Idx))) = slotsOf A c ((slotR c).emb (ix3 u r l))
  rw [emb_slot, Shape.reshapeEquiv_eq_of_rowMajor _ (y := (ix2 r l : S16x256.Idx)) (by
    rw [Shape.rowMajor_val_three, Shape.rowMajor_val_two]
    show r.val * 256 + l.val = (u.val * 16 + r.val) * 256 + l.val
    omega), emb_rows]
  rfl

/-- Device `c`'s block stored in the activations. -/
theorem own_x (B : Dev nD → Vec F S16x256 .bf16) (fd : Vec F S512x256 .bf16) {o₁ : Fin 2 → ℕ} (h₁ : o₁ = ![16 * c.val, 0]) (i₁) :
    ∀ i ∈ rowsSet c, (xbM.access (Rect.unit (s := S512x256) o₁ S16x256.size i₁) : View sig .tc _ _ _).write (Elt F) fd (B c) Finset.univ i
      = stack B i := by
  subst h₁
  intro i hi
  have hb : blockOf i = c := Fin.ext (mem_rows.mp hi)
  rw [show rowsSet c = (xbM.access (rowsR c) : View sig .tc _ _ _).set from (View.set_slice_whole _ _).symm] at hi
  obtain ⟨x, -, rfl⟩ := Finset.mem_map.mp hi
  obtain ⟨r, l, rfl⟩ : ∃ (r : Fin 16) (l : Fin 256), x = ix2 r l := ⟨x 0, x 1, eq_ix2 x⟩
  refine (View.write_emb_of_mem (v := (xbM.access (rowsR c) : View sig .tc _ _ _)) fd _ (Finset.mem_univ (ix2 r l))).trans ?_
  unfold stack
  rw [hb]
  refine congrArg (B c) ?_
  rw [show (xbM.access (rowsR c) : View sig .tc _ _ _).emb (ix2 r l : S16x256.Idx) = ix2 (rowOf c r) l from emb_rows c r l]
  have hr : rowIn (ix2 (rowOf c r) l) = r := Fin.ext (show (16 * c.val + r.val) % 16 = r.val by have := r.isLt; omega)
  rw [hr]

/-! ## A loop at the head of a program -/

/-- A counted loop of 31 trips, by its trip. -/
theorem loop31 {w : ℕ} (l : Scf.Loop w) (hok : l.OK) (hl : l.trips = 31)
    (body : Fin l.trips → Unit → Prog (TpuEff nD τ sig (Elt F) Λ₀ .tc) Unit) (I : ℕ → sProp 𝕄)
    (hb : ∀ (k : Fin l.trips) (acc : Unit), I k.val ⊢ wp frame (wpE (defs₀ (F := F)) 𝒱₀ (c : Thread nD τ) none) Set.univ (body k acc) (fun _ => I (k.val + 1)))
    {β : Type} {kk : Unit → Prog (TpuEff nD τ sig (Elt F) Λ₀ .tc) β} {Q : β → sProp 𝕄} :
    I 0 ⊢ iprop((I 31 -∗ wp frame (wpE (defs₀ (F := F)) 𝒱₀ (c : Thread nD τ) none) Set.univ (kk ()) Q)
      -∗ wp frame (wpE (defs₀ (F := F)) 𝒱₀ (c : Thread nD τ) none) Set.univ (Scf.Loop.for l hok () body >>= kk) Q) := by
  have h := Scf.wp_for_bind frame (wpE (defs₀ (F := F)) 𝒱₀ (c : Thread nD τ) none) Set.univ l.lb l.ub l.st hok () body (fun k _ => I k) hb (kk := kk) (Q := Q)
  rw [show Scf.trips l.lb l.ub l.st = 31 from hl] at h
  iintro HI HK
  iapply h $$ [HI]; · iexact HI
  iintro %acc
  iexact HK

end Cert.KernelIdealProof
-- ==== Proof.KernelIdeal.Moves.lean ====
/-
The body's loads and stores, each as a step at the head of a program, and an exchange's whole beginning and end in
terms of the buffers: for a reduce-scatter exchange the partial product cut into its blocks and put together again
with the 32 slots; for an all-gather exchange the own block of activations dealt to the copies and all 32 blocks put
together.
-/
module

public import proofs.«01_k».proof.Proof.KernelIdeal.Stages

@[expose] public section

noncomputable section

namespace Cert.KernelIdealProof

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 11 → ℕ) (c : Dev nD)

/-! ## Loads and stores -/

/-- What device `c` runs, at its own thread. -/
abbrev run {α : Type} (p : Prog (TpuEff nD τ sig (Elt F) Λ₀ .tc) α) (Q : α → sProp 𝕄) : sProp 𝕄 :=
  wp frame (wpE (defs₀ (F := F)) 𝒱₀ (c : Thread nD τ) none) Set.univ p Q

/-- Loads of a whole scratch buffer. -/
theorem acc_load {α : Type} {Q : α → sProp 𝕄} {f : Vec F S512x256 .bf16} {i} {hl} {k : Vec F S512x256 .bf16 → Prog (TpuEff nD τ sig (Elt F) Λ₀ .tc) α} :
    accAll c f ⊢ iprop((accAll c f -∗ run c (k f) Q)
      -∗ run c (.op (.load accM (Rect.unit (s := S512x256) ![0, 0] S512x256.size i).toLoadRect hl) k) Q) := by
  have h := wp_load (defs := defs₀ (F := F)) (Ix := Unit) (Name := ℕ) (U := UU) (Lvl := ℕ) 𝒱₀ (c : Thread nD τ) none (Γ := .empty) Set.univ (Q := Q) (m := accM) (hl := hl)
    (k := k) (q := fullShare) (f := f) (S := Finset.univ) (Finset.subset_univ _)
  have e : accM.view.readAt (Elt F) (Rect.unit (s := S512x256) ![0, 0] S512x256.size i).toLoadRect f = f :=
    Memref.readAt_unit_zero (Elt F) cc0_scratch0 hz2 i f
  rw [e] at h; exact h

theorem rs_load {α : Type} {Q : α → sProp 𝕄} {f : Vec F S32x16x256 .bf16} {i} {hl} {k : Vec F S32x16x256 .bf16 → Prog (TpuEff nD τ sig (Elt F) Λ₀ .tc) α} :
    rsAll c f ⊢ iprop((rsAll c f -∗ run c (k f) Q)
      -∗ run c (.op (.load rsM (Rect.unit (s := S32x16x256) ![0, 0, 0] S32x16x256.size i).toLoadRect hl) k) Q) := by
  have h := wp_load (defs := defs₀ (F := F)) (Ix := Unit) (Name := ℕ) (U := UU) (Lvl := ℕ) 𝒱₀ (c : Thread nD τ) none (Γ := .empty) Set.univ (Q := Q) (m := rsM) (hl := hl)
    (k := k) (q := fullShare) (f := f) (S := Finset.univ) (Finset.subset_univ _)
  have e : rsM.view.readAt (Elt F) (Rect.unit (s := S32x16x256) ![0, 0, 0] S32x16x256.size i).toLoadRect f = f :=
    Memref.readAt_unit_zero (Elt F) cc0_scratch1 hz3 i f
  rw [e] at h; exact h

theorem xb_load {α : Type} {Q : α → sProp 𝕄} {f : Vec F S512x256 .bf16} {i} {hl} {k : Vec F S512x256 .bf16 → Prog (TpuEff nD τ sig (Elt F) Λ₀ .tc) α} :
    xbAll c f ⊢ iprop((xbAll c f -∗ run c (k f) Q)
      -∗ run c (.op (.load xbM (Rect.unit (s := S512x256) ![0, 0] S512x256.size i).toLoadRect hl) k) Q) := by
  have h := wp_load (defs := defs₀ (F := F)) (Ix := Unit) (Name := ℕ) (U := UU) (Lvl := ℕ) 𝒱₀ (c : Thread nD τ) none (Γ := .empty) Set.univ (Q := Q) (m := xbM) (hl := hl)
    (k := k) (q := fullShare) (f := f) (S := Finset.univ) (Finset.subset_univ _)
  have e : xbM.view.readAt (Elt F) (Rect.unit (s := S512x256) ![0, 0] S512x256.size i).toLoadRect f = f :=
    Memref.readAt_unit_zero (Elt F) cc0_scratch2 hz2 i f
  rw [e] at h; exact h

/-- A store of the whole partial product. -/
theorem acc_store {α : Type} {Q : α → sProp 𝕄} {f w : Vec F S512x256 .bf16} {i} {hx} {hm} {k : PUnit → Prog (TpuEff nD τ sig (Elt F) Λ₀ .tc) α} :
    accAll c f ⊢ iprop((accAll c w -∗ run c (k ⟨⟩) Q)
      -∗ run c (.op (.store accM (Rect.unit (s := S512x256) ![0, 0] S512x256.size i) w Finset.univ hx hm) k) Q) := by
  have h := wp_store (defs := defs₀ (F := F)) (Ix := Unit) (Name := ℕ) (U := UU) (Lvl := ℕ) 𝒱₀ (c : Thread nD τ) none (Γ := .empty) Set.univ (Q := Q) (m := accM) (w := w) (hx := hx)
    (hm := hm) (k := k) (f := f) (S := Finset.univ) (Finset.subset_univ _)
  have e : (accM.access (Rect.unit (s := S512x256) ![0, 0] S512x256.size i) : View sig .tc _ _ _).write (Elt F) f w Finset.univ = w :=
    Memref.write_access_unit_zero_univ (Elt F) cc0_scratch0 hz2 i f w
  rw [e] at h; exact h

/-- Loads of the own block of the partial product, of the own slot, of the own block of the activations. -/
theorem accP_load {α : Type} {Q : α → sProp 𝕄} {f : Vec F S512x256 .bf16} {o : Fin 2 → ℕ} (h : o = ![16 * c.val, 0]) {i} {hl} {k : Vec F S16x256 .bf16 → Prog (TpuEff nD τ sig (Elt F) Λ₀ .tc) α} :
    accP c c f ⊢ iprop((accP c c f -∗ run c (k (accM.view.readAt (Elt F) (Rect.unit (s := S512x256) o S16x256.size i).toLoadRect f)) Q)
      -∗ run c (.op (.load accM (Rect.unit (s := S512x256) o S16x256.size i).toLoadRect hl) k) Q) := by
  subst h
  exact wp_load_rect (defs := defs₀ (F := F)) (Ix := Unit) (Name := ℕ) (U := UU) (Lvl := ℕ) 𝒱₀ (c : Thread nD τ) none (Γ := .empty) Set.univ (Q := Q) (m := accM) (r := rowsR c) (hl := hl)
    (k := k) (q := fullShare) (f := f) (S := rowsSet c) (View.set_slice_whole _ _).subset

theorem slotP_load {α : Type} {Q : α → sProp 𝕄} {f : Vec F S32x16x256 .bf16} {o : Fin 3 → ℕ} (h : o = ![c.val, 0, 0]) {i} {hl} {k : Vec F S1x16x256 .bf16 → Prog (TpuEff nD τ sig (Elt F) Λ₀ .tc) α} :
    slotP c c f ⊢ iprop((slotP c c f -∗ run c (k (rsM.view.readAt (Elt F) (Rect.unit (s := S32x16x256) o S1x16x256.size i).toLoadRect f)) Q)
      -∗ run c (.op (.load rsM (Rect.unit (s := S32x16x256) o S1x16x256.size i).toLoadRect hl) k) Q) := by
  subst h
  exact wp_load_rect (defs := defs₀ (F := F)) (Ix := Unit) (Name := ℕ) (U := UU) (Lvl := ℕ) 𝒱₀ (c : Thread nD τ) none (Γ := .empty) Set.univ (Q := Q) (m := rsM) (r := slotR c) (hl := hl)
    (k := k) (q := fullShare) (f := f) (S := slotSet c) (View.set_slice_whole _ _).subset

theorem xbP_load {α : Type} {Q : α → sProp 𝕄} {f : Vec F S512x256 .bf16} {o : Fin 2 → ℕ} (h : o = ![16 * c.val, 0]) {i} {hl} {k : Vec F S16x256 .bf16 → Prog (TpuEff nD τ sig (Elt F) Λ₀ .tc) α} :
    xbP c c fullShare f ⊢ iprop((xbP c c fullShare f -∗ run c (k (xbM.view.readAt (Elt F) (Rect.unit (s := S512x256) o S16x256.size i).toLoadRect f)) Q)
      -∗ run c (.op (.load xbM (Rect.unit (s := S512x256) o S16x256.size i).toLoadRect hl) k) Q) := by
  subst h
  exact wp_load_rect (defs := defs₀ (F := F)) (Ix := Unit) (Name := ℕ) (U := UU) (Lvl := ℕ) 𝒱₀ (c : Thread nD τ) none (Γ := .empty) Set.univ (Q := Q) (m := xbM) (r := rowsR c) (hl := hl)
    (k := k) (q := fullShare) (f := f) (S := rowsSet c) (View.set_slice_whole _ _).subset

/-- The own block of the partial product stored in the own slot. -/
theorem slotP_store {α : Type} {Q : α → sProp 𝕄} {f : Vec F S32x16x256 .bf16} (A : Dev nD → Vec F S512x256 .bf16) {o₁ : Fin 2 → ℕ} {o₂ : Fin 3 → ℕ}
    (h₁ : o₁ = ![16 * c.val, 0]) (h₂ : o₂ = ![c.val, 0, 0]) {i₁} {i₂} {hx} {hm} {k : PUnit → Prog (TpuEff nD τ sig (Elt F) Λ₀ .tc) α} :
    slotP c c f ⊢ iprop((slotP c c (slotsOf A c) -∗ run c (k ⟨⟩) Q)
      -∗ run c (.op (.store rsM (Rect.unit (s := S32x16x256) o₂ S1x16x256.size i₂)
          (k0_pay2 (accM.view.readAt (Elt F) (Rect.unit (s := S512x256) o₁ S16x256.size i₁).toLoadRect (A c))) Finset.univ hx hm) k) Q) := by
  have hw := pointsTo_congr (Ix := Unit) (Name := ℕ) (U := UU) (Lvl := ℕ) (ℓ := (c : Thread nD τ).loc cc0_scratch1) (q := fullShare) (own_slot c A f h₁ h₂ i₁ i₂)
  unfold slotP
  rw [← hw]
  subst h₁ h₂
  exact wp_store (defs := defs₀ (F := F)) (Ix := Unit) (Name := ℕ) (U := UU) (Lvl := ℕ) 𝒱₀ (c : Thread nD τ) none (Γ := .empty) Set.univ (Q := Q) (m := rsM) (r := slotR c) (hx := hx)
    (hm := hm) (k := k) (f := f) (S := slotSet c) (View.set_slice_whole _ _).subset

/-- The own block of activations stored. -/
theorem xbP_store {α : Type} {Q : α → sProp 𝕄} {f : Vec F S512x256 .bf16} (B : Dev nD → Vec F S16x256 .bf16) {w : Vec F S16x256 .bf16} (hw : B c = w)
    {o₁ : Fin 2 → ℕ} (h₁ : o₁ = ![16 * c.val, 0]) {i₁} {hx} {hm} {k : PUnit → Prog (TpuEff nD τ sig (Elt F) Λ₀ .tc) α} :
    xbP c c fullShare f ⊢ iprop((xbP c c fullShare (stack B) -∗ run c (k ⟨⟩) Q)
      -∗ run c (.op (.store xbM (Rect.unit (s := S512x256) o₁ S16x256.size i₁) w Finset.univ hx hm) k) Q) := by
  subst hw
  have hw := pointsTo_congr (Ix := Unit) (Name := ℕ) (U := UU) (Lvl := ℕ) (ℓ := (c : Thread nD τ).loc cc0_scratch2) (q := fullShare) (own_x c B f h₁ i₁)
  unfold xbP
  rw [← hw]
  subst h₁
  exact wp_store (defs := defs₀ (F := F)) (Ix := Unit) (Name := ℕ) (U := UU) (Lvl := ℕ) 𝒱₀ (c : Thread nD τ) none (Γ := .empty) Set.univ (Q := Q) (m := xbM) (r := rowsR c) (hx := hx)
    (hm := hm) (k := k) (f := f) (S := rowsSet c) (View.set_slice_whole _ _).subset

/-! ## An exchange's beginning and end, by buffers -/

/-- A reduce-scatter exchange begins: the partial product goes out but for the own block. -/
theorem rs_enter (p : Fin 5) (hp : p.val % 2 = 0) (A : Vec F S512x256 .bf16) (hA : accAt m p.val c = A) :
    iprop(know m K ∗ Toks (F := F) c p ∗ accAll c A ∗ Dsts (F := F) c p.val
        ∗ (bigSep (others c) fun t => extraP (F := F) p.val t c) ∗ debt c (rest c p.val))
      ⊢ iprop(SendInv m K p c 0 ∗ accP c c A) := by
  subst hA
  rw [accAll_eq]
  iintro ⟨Hk, Ht, ⟨Hc, Ha⟩, Hd, He, HO⟩
  isplitr [Hc]
  · iapply (send_enter m K c p)
    rw [sends_even m c p.val hp]
    isplitl [Hk]; · iexact Hk
    isplitl [Ht]; · iexact Ht
    isplitl [Ha]; · iexact Ha
    isplitl [Hd]; · iexact Hd
    isplitl [He] <;> iassumption
  iexact Hc

/-- It ends: the partial product is whole again, and with the own slot the 32 slots are. -/
theorem rs_leave (p : Fin 5) (hp : p.val % 2 = 0) (A : Dev nD → Vec F S512x256 .bf16) (hA : accAt m p.val = A) :
    iprop(WaitInv m K p c 31 ∗ accP c c (A c) ∗ slotP c c (slotsOf A c))
      ⊢ iprop(know m K ∗ debt c (rest c (p.val + 1)) ∗ After (F := F) c p ∗ accAll c (A c) ∗ rsAll c (slotsOf A c)
          ∗ bigSep (others c) fun t => extraP (F := F) p.val c t) := by
  subst hA
  have h := wait_leave m K c p
  rw [sends_even m c p.val hp, lands_even m c p.val hp] at h
  rw [accAll_eq, rsAll_eq]
  iintro ⟨HW, Ha, Hs⟩
  ihave H := h $$ HW
  icases H with ⟨Hk, HO, Hf, Has, Hss, He⟩
  isplitl [Hk]; · iexact Hk
  isplitl [HO]; · iexact HO
  isplitl [Hf]; · iexact Hf
  isplitl [Ha Has]; · isplitl [Ha] <;> iassumption
  isplitl [Hs Hss]; · isplitl [Hs] <;> iassumption
  iexact He

/-- An all-gather exchange begins: the own block of activations goes out, and with each copy the own slots the next
    exchange fills. -/
theorem ag_enter (p : Fin 5) (hp : ¬ p.val % 2 = 0) (hq : 1 ≤ p.val ∧ p.val ≤ 3) (X : Vec F S512x256 .bf16) (hX : actAt m p.val = X) :
    iprop(know m K ∗ Toks (F := F) c p ∗ xbP c c fullShare X ∗ Dsts (F := F) c p.val ∗ Own (F := F) c (p.val + 1) ∗ debt c (rest c p.val))
      ⊢ SendInv m K p c 0 := by
  subst hX
  iintro ⟨Hk, Ht, Hx, Hd, He, HO⟩
  iapply (send_enter m K c p)
  rw [sends_odd m c p.val hp, extras_mid c p.val hq]
  isplitl [Hk]; · iexact Hk
  isplitl [Ht]; · iexact Ht
  isplitl [Hx]; · iexact Hx
  isplitl [Hd]; · iexact Hd
  isplitl [He] <;> iassumption

/-- It ends: all the activations are here, and the slots of the others the next exchange fills. -/
theorem ag_leave (p : Fin 5) (hp : ¬ p.val % 2 = 0) (hq : 1 ≤ p.val ∧ p.val ≤ 3) (X : Vec F S512x256 .bf16) (hX : actAt m p.val = X) :
    WaitInv m K p c 31
      ⊢ iprop(know m K ∗ debt c (rest c (p.val + 1)) ∗ After (F := F) c p ∗ xbAll c X ∗ Dsts (F := F) c (p.val + 1)) := by
  subst hX
  have h := wait_leave m K c p
  rw [sends_odd m c p.val hp, lands_odd m c p.val hp, extras_got c p.val hq] at h
  rw [xbAll_eq]
  iintro HW
  ihave H := h $$ HW
  icases H with ⟨Hk, HO, Hf, Hx, Hxs, He⟩
  isplitl [Hk]; · iexact Hk
  isplitl [HO]; · iexact HO
  isplitl [Hf]; · iexact Hf
  isplitl [Hx Hxs]; · isplitl [Hx] <;> iassumption
  iexact He

omit [FloatOps F] in
/-- The slots once read, and the activations once read, are places for the others' next copies, the own apart. -/
theorem rs_release (p : ℕ) (hp : p % 2 = 0) (f : Vec F S32x16x256 .bf16) :
    rsAll c f ⊢ iprop((∃ f, slotP (F := F) c c f) ∗ Own (F := F) c p) := by
  rw [rsAll_eq]
  iintro ⟨H, Hs⟩
  isplitl [H]; · iexists f; iexact H
  unfold Own; iapply (slot_to_dst c p hp f); iexact Hs
omit [FloatOps F] in
theorem xb_release (p : ℕ) (hp : ¬ p % 2 = 0) (f : Vec F S512x256 .bf16) :
    xbAll c f ⊢ iprop((∃ f, xbP (F := F) c c fullShare f) ∗ Own (F := F) c p) := by
  rw [xbAll_eq]
  iintro ⟨H, Hs⟩
  isplitl [H]; · iexists f; iexact H
  unfold Own; iapply (xb_to_dst c p hp f); iexact Hs

end Cert.KernelIdealProof
-- ==== Proof.KernelIdeal.Parts.lean ====
/-
The body, part by part, on a symbolic device: the barrier and the first layer's partial product and copies; the rest
of the first layer and the second's product; the second layer's exchanges; the third layer.
-/
module

public import proofs.«01_k».proof.Proof.KernelIdeal.Moves

@[expose] public section

noncomputable section

namespace Cert.KernelIdealProof

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 11 → ℕ) (c : Dev nD)

/-- A program that is over. -/
theorem run_ret {α : Type} {Q : α → sProp 𝕄} (a : α) : Q a ⊢ run c (.ret a) Q := by
  unfold run
  rw [wp_ret]
  iintro H
  imodintro
  iexact H

/-- A staging buffer of device `c`, holding `X`. -/
abbrev stgP (b : Ref sig .tc) (X : b.ty.Contents (Elt F)) : sProp 𝕄 := ((c : Thread nD τ).loc b) ↦{fullShare} X

/-- A load of a whole staging buffer. -/
theorem stg_load {s : Shape} {e : EltTy} (M : Memref sig .tc .vmem s e) {α : Type} {Q : α → sProp 𝕄} {r : LoadRect s} {X : Buf (Elt F) (M.view.loc (c : Thread nD τ))}
    {V : r.shape.Idx → Elt F e} {hl : M.view.LoadsAt r} (hV : M.view.readAt (Elt F) r X = V)
    {k : (r.shape.Idx → Elt F e) → Prog (TpuEff nD τ sig (Elt F) Λ₀ .tc) α} :
    (M.view.loc (c : Thread nD τ) ↦{fullShare} X : sProp 𝕄)
      ⊢ iprop(((M.view.loc (c : Thread nD τ) ↦{fullShare} X) -∗ run c (k V) Q) -∗ run c (.op (.load M r hl) k) Q) := by
  subst hV
  exact wp_load 𝒱₀ (c : Thread nD τ) none Set.univ (Finset.subset_univ _)

/-- The barrier as device `c` starts: its position, the credit of the others' signals, the tokens of its own. -/
def BarBefore : sProp 𝕄 :=
  iprop(atPos ER (barCell c) 0 ∅ 0 ∗ cred (tallyAt (barCell c) () 31) ∗ bigSep (others c) fun t => dutyTok ER (barCell t) 0 c)

/-- What the signals hand out, and what the wait for the others' brings. -/
theorem bar_give : iprop(Own (F := F) c 0 ∗ Own (F := F) c 1) = (bigSep (others c) fun t => barPay (F := F) t c : sProp 𝕄) := by
  unfold Own barPay; rw [bigSep_pair]
theorem bar_take : (bigSep (others c) fun t => barPay (F := F) c t : sProp 𝕄) = iprop(Dsts (F := F) c 0 ∗ Dsts (F := F) c 1) := by
  unfold Dsts barPay; rw [bigSep_pair]

theorem bar_rest :
    (bigSep ((Rd m).duties (barCell c) 0 \ ∅) fun d => (Rd m).payload (barCell c) 0 d) = iprop(Dsts (F := F) c 0 ∗ Dsts (F := F) c 1) := by
  rw [Finset.sdiff_empty, duties_bar, bigSep_congr fun d _ => payload_bar m c d, bar_take]

/-- The signals begin. -/
theorem sig_enter :
    iprop(know m K ∗ (bigSep (others c) fun t => dutyTok ER (barCell t) 0 c) ∗ Own (F := F) c 0 ∗ Own (F := F) c 1 ∗ debt c (O₀ c)) ⊢ SigInv m K c 0 := by
  unfold SigInv O₀
  rw [rem_zero, bigSep_pair (others c) (fun t => dutyTok ER (barCell t) 0 c), ← bar_give]
  iintro ⟨Hk, Ht, H0, H1, HO⟩
  isplitl [Hk]; · iexact Hk
  isplitr [HO]
  · isplitl [Ht]; · iexact Ht
    isplitl [H0] <;> iassumption
  iexact HO

/-- The wait for the others' 31 signals. -/
theorem bar_wait {α : Type} {Q : α → sProp 𝕄} {kk : PUnit → Prog (TpuEff nD τ sig (Elt F) Λ₀ .tc) α} (w : ℕ) (hw : w = 31) :
    iprop(SigInv m K c 31 ∗ atPos ER (barCell c) 0 ∅ 0 ∗ cred (tallyAt (barCell c) () 31))
      ⊢ iprop(((know m K ∗ debt c (rest c 0) ∗ atPos ER (barCell c) 1 ∅ 0 ∗ Dsts (F := F) c 0 ∗ Dsts (F := F) c 1) -∗ run c (kk ⟨⟩) Q)
        -∗ run c (.op (.semWait barS w) kk) Q) := by
  subst hw
  unfold SigInv know debt
  rw [owedBar_last, add_zero]
  iintro ⟨⟨⟨#Hrec, #Hlev⟩, -, ⟨%W, HO⟩⟩, Hat, Hc⟩ HK
  ihave Hb := (records_bar m K c) $$ Hrec
  icases Hb with ⟨Hi, -⟩
  ihave Hm := (mayWait_rest c (.reg barS) 0 (show (1 : ℕ) < 2 by decide)) $$ Hlev
  iapply (Rounds.wp_wait_rest_token 𝒱₀ ER (Rd m) (c : Thread nD τ) none (κ := K (c, 0))
      (wpE_semWait_eq 𝒱₀ (c : Thread nD τ) none Set.univ) (Set.mem_univ _) () (O := rest c 0) (W := W) (R := 0) (m := 0) (T := ∅)
      (by rw [expect_bar])) $$ [Hi Hc HO Hm Hat]
  · isplitl [Hi]; · iexact Hi
    isplitl [Hc]; · iexact Hc
    isplitl [HO]; · iexact HO
    isplitl [Hm]; · iexact Hm
    iexact Hat
  iintro ⟨HO, Hat, -, Hp⟩
  ihave Hp := (Entails.of_eq (bar_rest m c)) $$ Hp
  icases Hp with ⟨H0, H1⟩
  iapply HK
  isplitr
  · isplitr; · iexact Hrec
    iexact Hlev
  isplitl [HO]; · iexists _; iexact HO
  isplitl [Hat]; · iexact Hat
  isplitl [H0] <;> iassumption

abbrev W0 : Memref sig .tc .vmem S512x256 .f32 := Memref.whole cc0_stg0_0
abbrev W1 : Memref sig .tc .vmem S256x512 .f32 := Memref.whole cc0_stg1_0
abbrev W2 : Memref sig .tc .vmem S512x256 .f32 := Memref.whole cc0_stg2_0
abbrev W3 : Memref sig .tc .vmem S256x512 .f32 := Memref.whole cc0_stg3_0
abbrev W4 : Memref sig .tc .vmem S512x256 .f32 := Memref.whole cc0_stg4_0
abbrev W5 : Memref sig .tc .vmem S256x512 .f32 := Memref.whole cc0_stg5_0
abbrev W6 : Memref sig .tc .vmem S512x256 .f32 := Memref.whole cc0_stg6_0
abbrev W7 : Memref sig .tc .vmem S16x256 .f32 := Memref.whole cc0_stg7_0

variable (h0 : W0.IsWhole) (h1 : W1.IsWhole) (h2 : W2.IsWhole) (h3 : W3.IsWhole) (h4 : W4.IsWhole) (h5 : W5.IsWhole) (h6 : W6.IsWhole)
  (h7 : W7.IsWhole) (hA : accM.IsWhole) (hR : rsM.IsWhole) (hX : xbM.IsWhole)

/-- What the own block of a partial product reads as. -/
abbrev ownRead (A : Vec F S512x256 .bf16) : Vec F S16x256 .bf16 :=
  accM.view.readAt (Elt F) (Rect.unit (s := S512x256) (k0_off3 c) S16x256.size (k0_off3_inb c)).toLoadRect A

/-- The first part: the barrier, the first layer's partial product, its copies. -/
theorem part1_run {Q : (Σ' (d0 : Dev nD) (v2 : BitVec 32), Vec F S16x256 .bf16) → sProp 𝕄} :
    iprop(know m K ∗ BarBefore (F := F) c ∗ (∃ f, accAll c f) ∗ (∃ f, rsAll c f) ∗ (∃ f, xbAll c f) ∗ Toks (F := F) c 0 ∗ debt c (O₀ c)
        ∗ stgP c cc0_stg0_0 (xin m c) ∗ stgP c cc0_stg1_0 (wi0 m c) ∗ stgP c cc0_stg2_0 (wo0 m c))
      ⊢ iprop((∀ v2, (SendInv m K 0 c 31 ∗ atPos ER (barCell c) 1 ∅ 0 ∗ Dsts (F := F) c 1 ∗ accP c c (A0 m c) ∗ (∃ f, slotP (F := F) c c f)
            ∗ (∃ f, xbP (F := F) c c fullShare f) ∗ stgP c cc0_stg0_0 (xin m c) ∗ stgP c cc0_stg1_0 (wi0 m c) ∗ stgP c cc0_stg2_0 (wo0 m c))
          -∗ Q ⟨c, v2, ownRead c (A0 m c)⟩)
        -∗ run c (k0_part1 W0 h0 W1 h1 W2 h2 W3 h3 W4 h4 W5 h5 W6 h6 W7 h7 accM hA rsM hR xbM hX cc0_scratch3 cc0_scratch4) Q) := by
  simp only [k0_part1_eq_skeleton]
  unfold k0_part1_skel
  simp only [semWaitWord, Prog.lift, Prog.bind_op, Prog.bind_ret, Prog.pure_eq_ret, wp_deviceId]
  unfold BarBefore
  iintro ⟨Hk, ⟨Hat, Hcb, Htb⟩, ⟨%fa, Ha⟩, ⟨%fr, Hr⟩, ⟨%fx, Hx⟩, Ht, HO, H0, H1, H2⟩ HK
  ihave Hr := (rs_release c 0 rfl fr) $$ Hr
  icases Hr with ⟨Hr, Hr0⟩
  ihave Hx := (xb_release c 1 (by decide) fx) $$ Hx
  icases Hx with ⟨Hx, Hx1⟩
  ihave HI := (sig_enter m K c) $$ [Hk Htb Hr0 Hx1 HO]
  · isplitl [Hk]; · iexact Hk
    isplitl [Htb]; · iexact Htb
    isplitl [Hr0]; · iexact Hr0
    isplitl [Hx1] <;> iassumption
  iapply (loop31 c k0_t1_loop k0_t1_ok t1_trips _ (SigInv m K c) (t1_step m K c W0 h0 W1 h1 W2 h2 W3 h3 W4 h4 W5 h5 W6 h6 W7 h7 hA hR hX)) $$ HI
  iintro HI
  iapply (bar_wait m K c _ (by decide)) $$ [HI Hat Hcb]
  · isplitl [HI]; · iexact HI
    isplitl [Hat] <;> iassumption
  iintro ⟨Hk, HO, Hat, Hd0, Hd1⟩
  iapply (stg_load c W0 (Memref.readAt_unit_zero (Elt F) cc0_stg0_0 hz2 _ _)) $$ H0; iintro H0
  iapply (stg_load c W1 (Memref.readAt_unit_zero (Elt F) cc0_stg1_0 hz2 _ _)) $$ H1; iintro H1
  iapply (stg_load c W2 (Memref.readAt_unit_zero (Elt F) cc0_stg2_0 hz2 _ _)) $$ H2; iintro H2
  iapply (acc_load c) $$ Ha; iintro Ha
  iapply (acc_store c) $$ Ha; iintro Ha
  ihave HI := (rs_enter m K c 0 rfl (A0 m c) rfl) $$ [Hk Ht Ha Hd0 HO]
  · isplitl [Hk]; · iexact Hk
    isplitl [Ht]; · iexact Ht
    isplitl [Ha]; · iexact Ha
    isplitl [Hd0]; · iexact Hd0
    isplitr; · iapply (extras_none c 0 (by decide)); iempintro
    iexact HO
  icases HI with ⟨HI, Ha⟩
  iapply (loop31 c k0_t2_loop k0_t2_ok t2_trips _ (SendInv m K 0 c) (t2_step m K c W0 h0 W1 h1 W2 h2 W3 h3 W4 h4 W5 h5 W6 h6 W7 h7 hA hR hX)) $$ HI
  iintro HI
  iapply (accP_load c (k0_off3_eq c)) $$ Ha; iintro Ha
  iapply (run_ret c)
  iapply HK
  isplitl [HI]; · iexact HI
  isplitl [Hat]; · iexact Hat
  isplitl [Hd1]; · iexact Hd1
  isplitl [Ha]; · iexact Ha
  isplitl [Hr]; · iexact Hr
  isplitl [Hx]; · iexact Hx
  isplitl [H0]; · iexact H0
  isplitl [H1] <;> iassumption

/-- The second part: the first layer's exchanges, the second layer's partial product. -/
theorem part2_run (v2 : BitVec 32) {Q : FVec F S512x256 .bf16 → sProp 𝕄} :
    iprop(SendInv m K 0 c 31 ∗ Before (F := F) c 0 ∗ Before (F := F) c 1 ∗ Toks (F := F) c 1 ∗ Dsts (F := F) c 1 ∗ accP c c (A0 m c)
        ∗ (∃ f, slotP (F := F) c c f) ∗ (∃ f, xbP (F := F) c c fullShare f) ∗ stgP c cc0_stg3_0 (wi1 m c) ∗ stgP c cc0_stg4_0 (wo1 m c))
      ⊢ iprop(((know m K ∗ debt c (rest c 2) ∗ After (F := F) c 0 ∗ After (F := F) c 1 ∗ accAll c (A0 m c) ∗ (∃ f, slotP (F := F) c c f)
            ∗ xbAll c (X1 m) ∗ Dsts (F := F) c 2 ∗ stgP c cc0_stg3_0 (wi1 m c) ∗ stgP c cc0_stg4_0 (wo1 m c))
          -∗ Q (k0_pay4 (X1 m) (wi1 m c) (wo1 m c)))
        -∗ run c (k0_part2 W0 h0 W1 h1 W2 h2 W3 h3 W4 h4 W5 h5 W6 h6 W7 h7 accM hA rsM hR xbM hX cc0_scratch3 cc0_scratch4 c v2 (ownRead c (A0 m c))) Q) := by
  simp only [k0_part2_eq_skeleton]
  unfold k0_part2_skel
  simp only [Prog.lift, Prog.bind_op, Prog.bind_ret, Prog.pure_eq_ret]
  iintro ⟨HI, Hb0, Hb1, Ht, Hd, Ha, ⟨%fs, Hs⟩, ⟨%fx, Hx⟩, H3, H4⟩ HK
  iapply (slotP_load c (k0_off4_eq c)) $$ Hs; iintro Hs
  iapply (slotP_store c (A0 m) (k0_off3_eq c) (k0_off4_eq c)) $$ Hs; iintro Hs
  ihave HI := (send_leave m K c 0) $$ [HI Hb0]
  · isplitl [HI] <;> iassumption
  iapply (loop31 c k0_t3_loop k0_t3_ok t3_trips _ (WaitInv m K 0 c) (t3_step m K c W0 h0 W1 h1 W2 h2 W3 h3 W4 h4 W5 h5 W6 h6 W7 h7 hA hR hX v2 _)) $$ HI
  iintro HI
  ihave HI := (rs_leave m K c 0 rfl (A0 m) rfl) $$ [HI Ha Hs]
  · isplitl [HI]; · iexact HI
    isplitl [Ha] <;> iassumption
  icases HI with ⟨Hk, HO, Hf0, Ha, Hr, -⟩
  iapply (rs_load c) $$ Hr; iintro Hr
  ihave Hr := (rs_release c 2 rfl _) $$ Hr
  icases Hr with ⟨Hs, Hr⟩
  iapply (xbP_load c (k0_off3_eq c)) $$ Hx; iintro Hx
  iapply (xbP_store c (fun s => k0_pay3 (slotsOf (A0 m) s)) rfl (k0_off3_eq c)) $$ Hx; iintro Hx
  ihave HI := (ag_enter m K c 1 (by decide) (by decide) (X1 m) rfl) $$ [Hk Ht Hx Hd Hr HO]
  · isplitl [Hk]; · iexact Hk
    isplitl [Ht]; · iexact Ht
    isplitl [Hx]; · iexact Hx
    isplitl [Hd]; · iexact Hd
    isplitl [Hr]; · iexact Hr
    iexact HO
  iapply (loop31 c k0_t4_loop k0_t4_ok t4_trips _ (SendInv m K 1 c) (t4_step m K c W0 h0 W1 h1 W2 h2 W3 h3 W4 h4 W5 h5 W6 h6 W7 h7 hA hR hX v2 _)) $$ HI
  iintro HI
  ihave HI := (send_leave m K c 1) $$ [HI Hb1]
  · isplitl [HI] <;> iassumption
  iapply (loop31 c k0_t5_loop k0_t5_ok t5_trips _ (WaitInv m K 1 c) (t5_step m K c W0 h0 W1 h1 W2 h2 W3 h3 W4 h4 W5 h5 W6 h6 W7 h7 hA hR hX v2 _)) $$ HI
  iintro HI
  ihave HI := (ag_leave m K c 1 (by decide) (by decide) (X1 m) rfl) $$ HI
  icases HI with ⟨Hk, HO, Hf1, Hx, Hd⟩
  iapply (xb_load c) $$ Hx; iintro Hx
  iapply (stg_load c W3 (Memref.readAt_unit_zero (Elt F) cc0_stg3_0 hz2 _ _)) $$ H3; iintro H3
  iapply (stg_load c W4 (Memref.readAt_unit_zero (Elt F) cc0_stg4_0 hz2 _ _)) $$ H4; iintro H4
  iapply (run_ret c)
  iapply HK
  isplitl [Hk]; · iexact Hk
  isplitl [HO]; · iexact HO
  isplitl [Hf0]; · iexact Hf0
  isplitl [Hf1]; · iexact Hf1
  isplitl [Ha]; · iexact Ha
  isplitl [Hs]; · iexact Hs
  isplitl [Hx]; · iexact Hx
  isplitl [Hd]; · iexact Hd
  isplitl [H3] <;> iassumption

/-- The third part: the second layer's exchanges. -/
theorem part3_run (v2 : BitVec 32) {Q : PUnit → sProp 𝕄} :
    iprop(know m K ∗ debt c (rest c 2) ∗ (Before (F := F) c 2 ∗ Before (F := F) c 3 ∗ Toks (F := F) c 2 ∗ Toks (F := F) c 3) ∗ Dsts (F := F) c 2
        ∗ accAll c (A0 m c) ∗ (∃ f, slotP (F := F) c c f) ∗ xbAll c (X1 m))
      ⊢ iprop(((know m K ∗ debt c (rest c 4) ∗ After (F := F) c 2 ∗ After (F := F) c 3 ∗ accAll c (A1 m c) ∗ (∃ f, slotP (F := F) c c f)
            ∗ xbAll c (X2 m) ∗ Dsts (F := F) c 4)
          -∗ Q ⟨⟩)
        -∗ run c (k0_part3 W0 h0 W1 h1 W2 h2 W3 h3 W4 h4 W5 h5 W6 h6 W7 h7 accM hA rsM hR xbM hX cc0_scratch3 cc0_scratch4 c v2
            (k0_pay4 (X1 m) (wi1 m c) (wo1 m c))) Q) := by
  simp only [k0_part3_eq_skeleton]
  unfold k0_part3_skel
  simp only [Prog.lift, Prog.bind_op, Prog.bind_ret, Prog.pure_eq_ret]
  iintro ⟨Hk, HO, ⟨Hb2, Hb3, Ht2, Ht3⟩, Hd, Ha, ⟨%fs, Hs⟩, Hx⟩ HK
  ihave Hx := (xb_release c 3 (by decide) _) $$ Hx
  icases Hx with ⟨⟨%fx, Hx⟩, Hx3⟩
  iapply (acc_load c) $$ Ha; iintro Ha
  iapply (acc_store c) $$ Ha; iintro Ha
  ihave HI := (rs_enter m K c 2 rfl (A1 m c) rfl) $$ [Hk Ht2 Ha Hd Hx3 HO]
  · isplitl [Hk]; · iexact Hk
    isplitl [Ht2]; · iexact Ht2
    isplitl [Ha]; · iexact Ha
    isplitl [Hd]; · iexact Hd
    isplitl [Hx3]; · iapply (Entails.of_eq (extras_mid c 2 (by decide)).symm); iexact Hx3
    iexact HO
  icases HI with ⟨HI, Ha⟩
  iapply (loop31 c k0_t6_loop k0_t6_ok t6_trips _ (SendInv m K 2 c) (t6_step m K c W0 h0 W1 h1 W2 h2 W3 h3 W4 h4 W5 h5 W6 h6 W7 h7 hA hR hX v2 _)) $$ HI
  iintro HI
  iapply (accP_load c (k0_off3_eq c)) $$ Ha; iintro Ha
  iapply (slotP_load c (k0_off4_eq c)) $$ Hs; iintro Hs
  iapply (slotP_store c (A1 m) (k0_off3_eq c) (k0_off4_eq c)) $$ Hs; iintro Hs
  ihave HI := (send_leave m K c 2) $$ [HI Hb2]
  · isplitl [HI] <;> iassumption
  iapply (loop31 c k0_t7_loop k0_t7_ok t7_trips _ (WaitInv m K 2 c) (t7_step m K c W0 h0 W1 h1 W2 h2 W3 h3 W4 h4 W5 h5 W6 h6 W7 h7 hA hR hX v2 _)) $$ HI
  iintro HI
  ihave HI := (rs_leave m K c 2 rfl (A1 m) rfl) $$ [HI Ha Hs]
  · isplitl [HI]; · iexact HI
    isplitl [Ha] <;> iassumption
  icases HI with ⟨Hk, HO, Hf2, Ha, Hr, He⟩
  ihave Hd := (Entails.of_eq (extras_got c (2 : Fin 5).val (by decide))) $$ He
  iapply (rs_load c) $$ Hr; iintro Hr
  ihave Hr := (rs_release c 4 rfl _) $$ Hr
  icases Hr with ⟨Hs, Hr⟩
  iapply (xbP_load c (k0_off3_eq c)) $$ Hx; iintro Hx
  iapply (xbP_store c (fun s => k0_pay7 (slotsOf (A1 m) s)) rfl (k0_off3_eq c)) $$ Hx; iintro Hx
  ihave HI := (ag_enter m K c 3 (by decide) (by decide) (X2 m) rfl) $$ [Hk Ht3 Hx Hd Hr HO]
  · isplitl [Hk]; · iexact Hk
    isplitl [Ht3]; · iexact Ht3
    isplitl [Hx]; · iexact Hx
    isplitl [Hd]; · iexact Hd
    isplitl [Hr]; · iexact Hr
    iexact HO
  iapply (loop31 c k0_t8_loop k0_t8_ok t8_trips _ (SendInv m K 3 c) (t8_step m K c W0 h0 W1 h1 W2 h2 W3 h3 W4 h4 W5 h5 W6 h6 W7 h7 hA hR hX v2 _)) $$ HI
  iintro HI
  ihave HI := (send_leave m K c 3) $$ [HI Hb3]
  · isplitl [HI] <;> iassumption
  iapply (loop31 c k0_t9_loop k0_t9_ok t9_trips _ (WaitInv m K 3 c) (t9_step m K c W0 h0 W1 h1 W2 h2 W3 h3 W4 h4 W5 h5 W6 h6 W7 h7 hA hR hX v2 _)) $$ HI
  iintro HI
  ihave HI := (ag_leave m K c 3 (by decide) (by decide) (X2 m) rfl) $$ HI
  icases HI with ⟨Hk, HO, Hf3, Hx, Hd⟩
  iapply (run_ret c)
  iapply HK
  isplitl [Hk]; · iexact Hk
  isplitl [HO]; · iexact HO
  isplitl [Hf2]; · iexact Hf2
  isplitl [Hf3]; · iexact Hf3
  isplitl [Ha]; · iexact Ha
  isplitl [Hs]; · iexact Hs
  isplitl [Hx]; · iexact Hx
  iexact Hd

/-- The fourth part: the third layer's partial product and exchange; it returns device `c`'s result. -/
theorem part4_run (v2 : BitVec 32) {Q : FVec F S16x256 .f32 → sProp 𝕄} :
    iprop(know m K ∗ debt c (rest c 4) ∗ (Before (F := F) c 4 ∗ Toks (F := F) c 4) ∗ Dsts (F := F) c 4
        ∗ accAll c (A1 m c) ∗ (∃ f, slotP (F := F) c c f) ∗ xbAll c (X2 m) ∗ stgP c cc0_stg5_0 (wi2 m c) ∗ stgP c cc0_stg6_0 (wo2 m c)
        ∗ ∃ X, stgP c cc0_stg7_0 X)
      ⊢ iprop(((know m K ∗ debt c (rest c 5) ∗ After (F := F) c 4 ∗ (∃ f, accAll (F := F) c f) ∗ (∃ f, rsAll (F := F) c f) ∗ (∃ f, xbAll (F := F) c f)
            ∗ stgP c cc0_stg5_0 (wi2 m c) ∗ stgP c cc0_stg6_0 (wo2 m c) ∗ ∃ X, stgP c cc0_stg7_0 X)
          -∗ Q (outAt m c))
        -∗ run c (k0_part4 W0 h0 W1 h1 W2 h2 W3 h3 W4 h4 W5 h5 W6 h6 W7 h7 accM hA rsM hR xbM hX cc0_scratch3 cc0_scratch4 c v2) Q) := by
  simp only [k0_part4_eq_skeleton]
  unfold k0_part4_skel outAt
  simp only [Prog.lift, Prog.bind_op, Prog.bind_ret, Prog.pure_eq_ret]
  iintro ⟨Hk, HO, ⟨Hb, Ht⟩, Hd, Ha, ⟨%fs, Hs⟩, Hx, H5, H6, ⟨%f7, H7⟩⟩ HK
  iapply (xb_load c) $$ Hx; iintro Hx
  iapply (stg_load c W5 (Memref.readAt_unit_zero (Elt F) cc0_stg5_0 hz2 _ _)) $$ H5; iintro H5
  iapply (stg_load c W6 (Memref.readAt_unit_zero (Elt F) cc0_stg6_0 hz2 _ _)) $$ H6; iintro H6
  iapply (acc_load c) $$ Ha; iintro Ha
  iapply (acc_store c) $$ Ha; iintro Ha
  ihave HI := (rs_enter m K c 4 rfl (A2 m c) rfl) $$ [Hk Ht Ha Hd HO]
  · isplitl [Hk]; · iexact Hk
    isplitl [Ht]; · iexact Ht
    isplitl [Ha]; · iexact Ha
    isplitl [Hd]; · iexact Hd
    isplitr; · iapply (extras_none c 4 (by decide)); iempintro
    iexact HO
  icases HI with ⟨HI, Ha⟩
  iapply (loop31 c k0_t10_loop k0_t10_ok t10_trips _ (SendInv m K 4 c) (t10_step m K c W0 h0 W1 h1 W2 h2 W3 h3 W4 h4 W5 h5 W6 h6 W7 h7 hA hR hX v2)) $$ HI
  iintro HI
  iapply (accP_load c (k0_off3_eq c)) $$ Ha; iintro Ha
  iapply (slotP_load c (k0_off4_eq c)) $$ Hs; iintro Hs
  iapply (slotP_store c (A2 m) (k0_off3_eq c) (k0_off4_eq c)) $$ Hs; iintro Hs
  ihave HI := (send_leave m K c 4) $$ [HI Hb]
  · isplitl [HI] <;> iassumption
  iapply (loop31 c k0_t11_loop k0_t11_ok t11_trips _ (WaitInv m K 4 c) (t11_step m K c W0 h0 W1 h1 W2 h2 W3 h3 W4 h4 W5 h5 W6 h6 W7 h7 hA hR hX v2)) $$ HI
  iintro HI
  ihave HI := (rs_leave m K c 4 rfl (A2 m) rfl) $$ [HI Ha Hs]
  · isplitl [HI]; · iexact HI
    isplitl [Ha] <;> iassumption
  icases HI with ⟨Hk, HO, Hf, Ha, Hr, -⟩
  iapply (rs_load c) $$ Hr; iintro Hr
  iapply (stg_load c W7 (Memref.readAt_unit_zero (Elt F) cc0_stg7_0 hz2 _ _)) $$ H7; iintro H7
  iapply (run_ret c)
  iapply HK
  isplitl [Hk]; · iexact Hk
  isplitl [HO]; · iexact HO
  isplitl [Hf]; · iexact Hf
  isplitl [Ha]; · iexists _; iexact Ha
  isplitl [Hr]; · iexists _; iexact Hr
  isplitl [Hx]; · iexists _; iexact Hx
  isplitl [H5]; · iexact H5
  isplitl [H6]; · iexact H6
  iexists _; iexact H7

end Cert.KernelIdealProof
-- ==== Proof.KernelIdeal.Body.lean ====
/-
The whole body on a symbolic device: from what the launch leaves a device with, its scratch buffers and its staged
inputs, the four parts one after the other and the store of the result, to every semaphore of the protocol closed at
zero, nothing owed, and the result's staging buffer holding the device's result.
-/
module

public import proofs.«01_k».proof.Proof.KernelIdeal.Parts

@[expose] public section

noncomputable section

namespace Cert.KernelIdealProof

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ UU ℕ

variable (m : (ℓ : Loc nD τ sig) → Buf (Elt F) ℓ) (K : Dev nD × Fin 11 → ℕ) (c : Dev nD)

/-- A program of two pieces, the second's run the first's conclusion. -/
theorem run_bind {α β : Type} {Q : β → sProp 𝕄} {p : Prog (TpuEff nD τ sig (Elt F) Λ₀ .tc) α} {k : α → Prog (TpuEff nD τ sig (Elt F) Λ₀ .tc) β} :
    run c p (fun a => run c (k a) Q) ⊢ run c (p >>= k) Q := by
  unfold run
  rw [wp_bind]

/-- Five conjuncts, one per exchange, listed. -/
theorem bigSep_five (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

/-- What a device holds for the protocol as its body starts: its barrier, and each exchange's positions, credit and
    tokens. -/
def Ready : sProp 𝕄 :=
  iprop(BarBefore (F := F) c ∗ bigSep Finset.univ fun p : Fin 5 => iprop(Before (F := F) c p ∗ Toks (F := F) c p))

/-- Its three scratch buffers, contents unknown. -/
def Scratch : sProp 𝕄 := iprop((∃ f, accAll (F := F) c f) ∗ (∃ f, rsAll (F := F) c f) ∗ (∃ f, xbAll (F := F) c f))

/-- The counters of its eleven semaphores, at zero. -/
def Zeros : sProp 𝕄 :=
  iprop(semVal (barCell c) 0 ∗ bigSep Finset.univ fun p : Fin 5 => iprop(semVal (sendCell c p) 0 ∗ semVal (recvCell c p) 0))

def start : sProp 𝕄 := iprop((∃ K, know m K) ∗ Ready (F := F) c)

/-- The proof data of the one pipeline: the arrays as launched; after the body the inputs' staging buffers as they
    were and the result's at the device's result; the protocol's state before and after; what is owed. -/
def dats (_ : Fin 1) (c : Dev nD) : Dat τ (Elt F) Unit ℕ UU ℕ cfg0 c where
  A w := V m c (Pipeline.arrRef spec0 w)
  after w _ := match w with
    | ⟨0, _⟩ => xin m c
    | ⟨1, _⟩ => wi0 m c
    | ⟨2, _⟩ => wo0 m c
    | ⟨3, _⟩ => wi1 m c
    | ⟨4, _⟩ => wo1 m c
    | ⟨5, _⟩ => wi2 m c
    | ⟨6, _⟩ => wo2 m c
    | ⟨7, _⟩ => outAt m c
  Φ t := match t with
    | ⟨0, _⟩ => iprop(start m c ∗ Scratch (F := F) c)
    | ⟨_ + 1, _⟩ => iprop(Scratch (F := F) c ∗ Zeros (F := F) c)
  q _ := fullShare
  owed t := match t with
    | ⟨0, _⟩ => O₀ c
    | ⟨_ + 1, _⟩ => 0

/-- The cells of exchange `p` close once it is over. -/
theorem close_after (p : Fin 5) :
    iprop(records m K ∗ After (F := F) c p) ⊢ (|={Set.univ}=> iprop(semVal (sendCell c p) 0 ∗ semVal (recvCell c p) 0) : sProp 𝕄) := by
  unfold After
  iintro ⟨#Hrec, Hs, Hr⟩
  ihave Hi := (records_send m K c p) $$ Hrec
  icases Hi with ⟨His, -⟩
  ihave Hj := (records_recv m K c p) $$ Hrec
  icases Hj with ⟨Hir, -⟩
  imod (Rounds.cell_close ER (Rd m) (Set.mem_univ (K (c, sIdx p))) (fun h => h) (R := 0 + 1) (duties_later m (sendCell c p))) $$ [His Hs] with Hzs
  · isplitl [His] <;> iassumption
  imod (Rounds.cell_close ER (Rd m) (Set.mem_univ (K (c, rIdx p))) (fun h => h) (R := 0 + 1) (duties_later m (recvCell c p))) $$ [Hir Hr] with Hzr
  · isplitl [Hir] <;> iassumption
  imodintro
  isplitl [Hzs] <;> iassumption

/-- The barrier closes once its wait is over. -/
theorem close_bar :
    iprop(records m K ∗ atPos ER (barCell c) 1 ∅ 0) ⊢ (|={Set.univ}=> semVal (barCell c) 0 : sProp 𝕄) := by
  iintro ⟨#Hrec, Hs⟩
  ihave Hi := (records_bar m K c) $$ Hrec
  icases Hi with ⟨His, -⟩
  imod (Rounds.cell_close ER (Rd m) (Set.mem_univ (K (c, 0))) (fun h => h) (R := 0 + 1) (duties_later m (barCell c))) $$ [His Hs] with Hz
  · isplitl [His] <;> iassumption
  imodintro
  iexact Hz

/-- All eleven close at the end. -/
theorem close_all :
    iprop(know m K ∗ atPos ER (barCell c) 1 ∅ 0 ∗ After (F := F) c 0 ∗ After (F := F) c 1 ∗ After (F := F) c 2 ∗ After (F := F) c 3 ∗ After (F := F) c 4)
      ⊢ (|={Set.univ}=> Zeros (F := F) c : sProp 𝕄) := by
  unfold Zeros
  rw [bigSep_five]
  iintro ⟨#Hk, Hb, H0, H1, H2, H3, H4⟩
  ihave #Hrec := (know_rec m K) $$ Hk
  imod (close_bar m K c) $$ [Hb] with Hb
  · isplitr; · iexact Hrec
    iexact Hb
  imod (close_after m K c 0) $$ [H0] with H0
  · isplitr; · iexact Hrec
    iexact H0
  imod (close_after m K c 1) $$ [H1] with H1
  · isplitr; · iexact Hrec
    iexact H1
  imod (close_after m K c 2) $$ [H2] with H2
  · isplitr; · iexact Hrec
    iexact H2
  imod (close_after m K c 3) $$ [H3] with H3
  · isplitr; · iexact Hrec
    iexact H3
  imod (close_after m K c 4) $$ [H4] with H4
  · isplitr; · iexact Hrec
    iexact H4
  imodintro
  isplitl [Hb]; · iexact Hb
  isplitl [H0]; · iexact H0
  isplitl [H1]; · iexact H1
  isplitl [H2]; · iexact H2
  isplitl [H3] <;> iassumption

/-- The seven staged inputs. -/
def Staged : sProp 𝕄 :=
  iprop(stgP c cc0_stg0_0 (xin m c) ∗ stgP c cc0_stg1_0 (wi0 m c) ∗ stgP c cc0_stg2_0 (wo0 m c) ∗ stgP c cc0_stg3_0 (wi1 m c)
    ∗ stgP c cc0_stg4_0 (wo1 m c) ∗ stgP c cc0_stg5_0 (wi2 m c) ∗ stgP c cc0_stg6_0 (wo2 m c))

/-- The store of the result. -/
theorem out_store {α : Type} {Q : α → sProp 𝕄} {f w : Vec F S16x256 .f32} {i} {hx} {hm} {k : PUnit → Prog (TpuEff nD τ sig (Elt F) Λ₀ .tc) α} :
    stgP (F := F) c cc0_stg7_0 f ⊢ iprop((stgP (F := F) c cc0_stg7_0 w -∗ run c (k ⟨⟩) Q)
      -∗ run c (.op (.store W7 (Rect.unit (s := S16x256) ![0, 0] S16x256.size i) w Finset.univ hx hm) k) Q) := by
  have h := wp_store (defs := defs₀ (F := F)) (Ix := Unit) (Name := ℕ) (U := UU) (Lvl := ℕ) 𝒱₀ (c : Thread nD τ) none (Γ := .empty) Set.univ (Q := Q) (m := W7) (w := w) (hx := hx)
    (hm := hm) (k := k) (f := f) (S := Finset.univ) (Finset.subset_univ _)
  have e : (W7.access (Rect.unit (s := S16x256) ![0, 0] S16x256.size i) : View sig .tc _ _ _).write (Elt F) f w Finset.univ = w :=
    Memref.write_access_unit_zero_univ (Elt F) cc0_stg7_0 hz2 i f w
  rw [e] at h; exact h

/-- The body run through. -/
theorem body_run (h0 : W0.IsWhole) (h1 : W1.IsWhole) (h2 : W2.IsWhole) (h3 : W3.IsWhole) (h4 : W4.IsWhole) (h5 : W5.IsWhole) (h6 : W6.IsWhole)
    (h7 : W7.IsWhole) (hA : accM.IsWhole) (hR : rsM.IsWhole) (hX : xbM.IsWhole) {Q : PUnit → sProp 𝕄} :
    iprop(know m K ∗ Ready (F := F) c ∗ Scratch (F := F) c ∗ debt c (O₀ c) ∗ Staged m c ∗ (∃ X, stgP (F := F) c cc0_stg7_0 X))
      ⊢ iprop(((Scratch (F := F) c ∗ Zeros (F := F) c ∗ debt c 0 ∗ Staged m c ∗ stgP c cc0_stg7_0 (outAt m c)) -∗ Q ⟨⟩)
        -∗ run c (cc0_body W0 h0 W1 h1 W2 h2 W3 h3 W4 h4 W5 h5 W6 h6 W7 h7 accM hA rsM hR xbM hX cc0_scratch3 cc0_scratch4) Q) := by
  simp only [cc0_body_eq_skeleton]
  unfold cc0_body_skel Ready Scratch Staged
  rw [bigSep_five]
  iintro ⟨#Hk, ⟨Hbar, ⟨Hb0, Ht0⟩, ⟨Hb1, Ht1⟩, ⟨Hb2, Ht2⟩, ⟨Hb3, Ht3⟩, ⟨Hb4, Ht4⟩⟩, ⟨Ha, Hr, Hx⟩, HO, ⟨H0, H1, H2, H3, H4, H5, H6⟩, H7⟩ HK
  iapply (run_bind c)
  iapply (part1_run m K c h0 h1 h2 h3 h4 h5 h6 h7 hA hR hX) $$ [Hbar Ha Hr Hx Ht0 HO H0 H1 H2]
  · isplitr; · iexact Hk
    isplitl [Hbar]; · iexact Hbar
    isplitl [Ha]; · iexact Ha
    isplitl [Hr]; · iexact Hr
    isplitl [Hx]; · iexact Hx
    isplitl [Ht0]; · iexact Ht0
    isplitl [HO]; · iexact HO
    isplitl [H0]; · iexact H0
    isplitl [H1] <;> iassumption
  iintro %v2 ⟨HI, Hbar, Hd, Ha, Hr, Hx, H0, H1, H2⟩
  dsimp only
  iapply (run_bind c)
  iapply (part2_run m K c h0 h1 h2 h3 h4 h5 h6 h7 hA hR hX v2) $$ [HI Hb0 Hb1 Ht1 Hd Ha Hr Hx H3 H4]
  · isplitl [HI]; · iexact HI
    isplitl [Hb0]; · iexact Hb0
    isplitl [Hb1]; · iexact Hb1
    isplitl [Ht1]; · iexact Ht1
    isplitl [Hd]; · iexact Hd
    isplitl [Ha]; · iexact Ha
    isplitl [Hr]; · iexact Hr
    isplitl [Hx]; · iexact Hx
    isplitl [H3] <;> iassumption
  iintro ⟨-, HO, Hf0, Hf1, Ha, Hr, Hx, Hd, H3, H4⟩
  iapply (run_bind c)
  iapply (part3_run m K c h0 h1 h2 h3 h4 h5 h6 h7 hA hR hX v2) $$ [HO Hb2 Hb3 Ht2 Ht3 Hd Ha Hr Hx]
  · isplitr; · iexact Hk
    isplitl [HO]; · iexact HO
    isplitl [Hb2 Hb3 Ht2 Ht3]
    · isplitl [Hb2]; · iexact Hb2
      isplitl [Hb3]; · iexact Hb3
      isplitl [Ht2] <;> iassumption
    isplitl [Hd]; · iexact Hd
    isplitl [Ha]; · iexact Ha
    isplitl [Hr] <;> iassumption
  iintro ⟨-, HO, Hf2, Hf3, Ha, Hr, Hx, Hd⟩
  iapply (run_bind c)
  iapply (part4_run m K c h0 h1 h2 h3 h4 h5 h6 h7 hA hR hX v2) $$ [HO Hb4 Ht4 Hd Ha Hr Hx H5 H6 H7]
  · isplitr; · iexact Hk
    isplitl [HO]; · iexact HO
    isplitl [Hb4 Ht4]
    · isplitl [Hb4] <;> iassumption
    isplitl [Hd]; · iexact Hd
    isplitl [Ha]; · iexact Ha
    isplitl [Hr]; · iexact Hr
    isplitl [Hx]; · iexact Hx
    isplitl [H5]; · iexact H5
    isplitl [H6] <;> iassumption
  iintro ⟨-, HO, Hf4, Ha, Hr, Hx, H5, H6, ⟨%X, H7⟩⟩
  simp only [Prog.lift, Prog.bind_op, Prog.bind_ret, Prog.pure_eq_ret]
  iapply (out_store c) $$ H7; iintro H7
  imod (close_all m K c) $$ [Hbar Hf0 Hf1 Hf2 Hf3 Hf4] with Hz
  · isplitr; · iexact Hk
    isplitl [Hbar]; · iexact Hbar
    isplitl [Hf0]; · iexact Hf0
    isplitl [Hf1]; · iexact Hf1
    isplitl [Hf2]; · iexact Hf2
    isplitl [Hf3] <;> iassumption
  iapply (run_ret c)
  iapply HK
  isplitl [Ha Hr Hx]
  · isplitl [Ha]; · iexact Ha
    isplitl [Hr] <;> iassumption
  isplitl [Hz]; · iexact Hz
  isplitl [HO]; · rw [← rest_last c]; iexact HO
  isplitr [H7]
  · isplitl [H0]; · iexact H0
    isplitl [H1]; · iexact H1
    isplitl [H2]; · iexact H2
    isplitl [H3]; · iexact H3
    isplitl [H4]; · iexact H4
    isplitl [H5] <;> iassumption
  iexact H7

/-! ## The body obligation -/

/-- A staging buffer whose contents are named by an equation, as the launch states it. -/
abbrev stg (b : Ref sig .tc) (X : b.ty.Contents (Elt F)) : sProp 𝕄 :=
  iprop(∃ f : Buf (Elt F) ((c : Thread nD τ).loc b), ⌜f = X⌝ ∗ stgP c b f)

theorem owns_whole_eq (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

theorem stg_intro (b : Ref sig .tc) (X : b.ty.Contents (Elt F)) : stgP (F := F) c b X ⊢ stg c b X := by
  iintro H
  iexists X
  isplitr; · (ipureintro; rfl)
  iexact H
theorem stg_elim (b : Ref sig .tc) {D : Type} (Y : D → b.ty.Contents (Elt F)) (X : b.ty.Contents (Elt F)) (h : ∀ d, Y d = X) :
    (iprop(∃ d, stg c b (Y d)) : sProp 𝕄) ⊢ stgP c b X := by
  iintro ⟨%d, %f, %hf, H⟩
  have e : f = X := hf.trans (h d)
  subst e
  iexact H

/-- An input's staging buffer holds its block as the body starts. -/
theorem before_in (w : Fin cfg0.W) (hf : (cfg0.win w).fetch t0_0 = true) (d) :
    (dats m 0 c).before w t0_0 d = (dats m 0 c).fetched w t0_0 d := by
  unfold Dat.before; rw [if_pos hf]

abbrev bef (w : Fin cfg0.W) (d : (cfg0.win w).block.Idx → Elt F (cfg0.win w).elt) := (dats m 0 c).before w t0_0 d

/-- What the launch hands the body, and what it takes back. -/
def bodyPre : sProp 𝕄 :=
  iprop((start m c ∗ Scratch (F := F) c) ∗ (dats m 0 c).owesAt () t0_0.castSucc
    ∗ (∃ d, stg c cc0_stg0_0 (bef m c 0 d)) ∗ (∃ d, stg c cc0_stg1_0 (bef m c 1 d)) ∗ (∃ d, stg c cc0_stg2_0 (bef m c 2 d))
    ∗ (∃ d, stg c cc0_stg3_0 (bef m c 3 d)) ∗ (∃ d, stg c cc0_stg4_0 (bef m c 4 d)) ∗ (∃ d, stg c cc0_stg5_0 (bef m c 5 d))
    ∗ (∃ d, stg c cc0_stg6_0 (bef m c 6 d)) ∗ (∃ d, stg c cc0_stg7_0 (bef m c 7 d)))
def bodyPost : sProp 𝕄 :=
  iprop((Scratch (F := F) c ∗ Zeros (F := F) c) ∗ (dats m 0 c).owesAt () t0_0.succ
    ∗ stg c cc0_stg0_0 (xin m c) ∗ stg c cc0_stg1_0 (wi0 m c) ∗ stg c cc0_stg2_0 (wo0 m c) ∗ stg c cc0_stg3_0 (wi1 m c)
    ∗ stg c cc0_stg4_0 (wo1 m c) ∗ stg c cc0_stg5_0 (wi2 m c) ∗ stg c cc0_stg6_0 (wo2 m c) ∗ stg c cc0_stg7_0 (outAt m c))

theorem pre_debt : (dats m 0 c).owesAt () t0_0.castSucc ⊢ (debt c (O₀ c) : sProp 𝕄) := by
  unfold Dat.owesAt Pipeline.owesWithin debt
  iintro ⟨%W, -, HO⟩
  iexists W
  iexact HO
theorem post_debt : (debt c 0 : sProp 𝕄) ⊢ (dats m 0 c).owesAt () t0_0.succ := by
  unfold Dat.owesAt Pipeline.owesWithin debt
  iintro ⟨%W, HO⟩
  iexists W
  isplitr; · ipureintro; exact fun _ _ => Or.inl trivial
  iexact HO

theorem sound_body :
    bodyPre m c ⊢ run c (cc0_body W0 (Memref.isWhole_whole _) W1 (Memref.isWhole_whole _) W2 (Memref.isWhole_whole _) W3 (Memref.isWhole_whole _)
      W4 (Memref.isWhole_whole _) W5 (Memref.isWhole_whole _) W6 (Memref.isWhole_whole _) W7 (Memref.isWhole_whole _)
      accM (Memref.isWhole_whole _) rsM (Memref.isWhole_whole _) xbM (Memref.isWhole_whole _) cc0_scratch3 cc0_scratch4) (fun _ => bodyPost m c) := by
  unfold bodyPre start bodyPost
  iintro ⟨⟨⟨⟨%K, Hk⟩, HR⟩, HS⟩, HO, H0, H1, H2, H3, H4, H5, H6, ⟨%d, %f, -, H7⟩⟩
  ihave HO := (pre_debt m c) $$ HO
  ihave H0 := (stg_elim c cc0_stg0_0 (bef m c 0) (xin m c) (fun d => (before_in m c 0 (fetch0_0 _) d).trans rfl)) $$ H0
  ihave H1 := (stg_elim c cc0_stg1_0 (bef m c 1) (wi0 m c) (fun d => (before_in m c 1 (fetch0_1 _) d).trans rfl)) $$ H1
  ihave H2 := (stg_elim c cc0_stg2_0 (bef m c 2) (wo0 m c) (fun d => (before_in m c 2 (fetch0_2 _) d).trans rfl)) $$ H2
  ihave H3 := (stg_elim c cc0_stg3_0 (bef m c 3) (wi1 m c) (fun d => (before_in m c 3 (fetch0_3 _) d).trans rfl)) $$ H3
  ihave H4 := (stg_elim c cc0_stg4_0 (bef m c 4) (wo1 m c) (fun d => (before_in m c 4 (fetch0_4 _) d).trans rfl)) $$ H4
  ihave H5 := (stg_elim c cc0_stg5_0 (bef m c 5) (wi2 m c) (fun d => (before_in m c 5 (fetch0_5 _) d).trans rfl)) $$ H5
  ihave H6 := (stg_elim c cc0_stg6_0 (bef m c 6) (wo2 m c) (fun d => (before_in m c 6 (fetch0_6 _) d).trans rfl)) $$ H6
  iapply (body_run m K c _ _ _ _ _ _ _ _ _ _ _) $$ [Hk HR HS HO H0 H1 H2 H3 H4 H5 H6 H7]
  · isplitl [Hk]; · iexact Hk
    isplitl [HR]; · iexact HR
    isplitl [HS]; · iexact HS
    isplitl [HO]; · iexact HO
    isplitr [H7]
    · unfold Staged
      isplitl [H0]; · iexact H0
      isplitl [H1]; · iexact H1
      isplitl [H2]; · iexact H2
      isplitl [H3]; · iexact H3
      isplitl [H4]; · iexact H4
      isplitl [H5] <;> iassumption
    · iexists f; iexact H7
  unfold Staged
  iintro ⟨HS, HZ, HO, ⟨H0, H1, H2, H3, H4, H5, H6⟩, H7⟩
  isplitl [HS HZ]
  · isplitl [HS] <;> iassumption
  isplitl [HO]; · iapply (post_debt m c); iexact HO
  isplitl [H0]; · iapply (stg_intro c cc0_stg0_0); iexact H0
  isplitl [H1]; · iapply (stg_intro c cc0_stg1_0); iexact H1
  isplitl [H2]; · iapply (stg_intro c cc0_stg2_0); iexact H2
  isplitl [H3]; · iapply (stg_intro c cc0_stg3_0); iexact H3
  isplitl [H4]; · iapply (stg_intro c cc0_stg4_0); iexact H4
  isplitl [H5]; · iapply (stg_intro c cc0_stg5_0); iexact H5
  isplitl [H6]; · iapply (stg_intro c cc0_stg6_0); iexact H6
  iapply (stg_intro c cc0_stg7_0); iexact H7

theorem bigSep_W (Φ : Fin cfg0.W → sProp 𝕄) : bigSep Finset.univ Φ
    = iprop(Φ (0 : Fin 8) ∗ Φ (1 : Fin 8) ∗ Φ (2 : Fin 8) ∗ Φ (3 : Fin 8) ∗ Φ (4 : Fin 8) ∗ Φ (5 : Fin 8) ∗ Φ (6 : Fin 8) ∗ Φ (7 : Fin 8)) := bigSep_W0 Φ

set_option maxRecDepth 8000 in
/-- The launch's obligation for the body. -/
theorem body_obligation (c : Dev nD) : BodyObligation (dats (F := F) m 0 c) (defs₀ (F := F)) 𝒱₀ () Set.univ := fun t => by
  rw [fin_N0 t]
  rw [bigSep_W, bigSep_W]
  simp only [owns_whole_eq]
  exact sound_body m c

end Cert.KernelIdealProof

end
-- ==== Proof.KernelIdeal.Launch.lean ====
/-
The launch on all 32 devices: what it mints for the protocol, the tokens dealt to the devices that pay with them, the
credit of what each device is owed, and the whole run: every weakly fair execution ends with each device's result
array at that device's result, its arguments as they were, and every semaphore at zero.
-/
module

public import proofs.«01_k».proof.Proof.KernelIdeal.Body
public import Idealize.ShloMosaic.Lib.Pipeline.CollectiveSegs

@[expose] public section

noncomputable section

namespace Cert.KernelIdealProof

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 11 → ℕ) (c : Dev nD)

/-! ## The protocol's cells and tokens -/

theorem ownSemFacts : Pipeline.OwnSemFacts cfg0.spec osem := by decide

theorem csem_injective : Function.Injective csem := by decide

theorem kcell_injective : Function.Injective (kcell : Dev nD × Fin 11 → GSem nD τ sig) := by
  rintro ⟨c, k⟩ ⟨c', k'⟩ h
  have h1 : c = c' := congrArg (fun g : GSem nD τ sig => g.1.1) h
  have h2 : k = k' := csem_injective (congrArg Prod.snd h)
  rw [h1, h2]

/-- All devices' cells, and for each a token per device. -/
def allCells : Finset (GSem nD τ sig) := Finset.univ.map ⟨kcell, kcell_injective⟩
theorem tok_injective : Function.Injective (fun x : (Dev nD × Fin 11) × Dev nD => ((kcell x.1, 0, x.2) : GSem nD τ sig × ℕ × Dev nD)) := by
  rintro ⟨ck, d⟩ ⟨ck', d'⟩ h
  have h1 : ck = ck' := kcell_injective (congrArg Prod.fst h)
  have h2 : d = d' := congrArg (fun x : GSem nD τ sig × ℕ × Dev nD => x.2.2) h
  rw [h1, h2]
def allToks : Finset (GSem nD τ sig × ℕ × Dev nD) := Finset.univ.map ⟨_, tok_injective⟩

/-- The launch's ghost state: its own beside the protocol's. -/
def u₀ : UU :=
  (initOf (Pipeline.cells cfgs cellOf_inj) (Pipeline.launchToks cfgs cellOf_inj), initOf allCells allToks)

/-- A conjunction re-bracketed to the right. -/
theorem sep_right (P Q R : sProp 𝕄) : iprop((P ∗ Q) ∗ R) = iprop(P ∗ Q ∗ R) :=
  equiv_iff.mp ⟨BI.sep_assoc, BI.sep_assoc'⟩

/-- Eleven conjuncts listed: the first, then the next five each with its partner; all but the first, then the first. -/
theorem bigSep_eleven (Φ : Fin 11 → sProp 𝕄) : bigSep Finset.univ Φ
    = iprop(Φ 0 ∗ Φ 1 ∗ Φ 6 ∗ Φ 2 ∗ Φ 7 ∗ Φ 3 ∗ Φ 8 ∗ Φ 4 ∗ Φ 9 ∗ Φ 5 ∗ Φ 10) :=
  bigSep_univ_eq_bigSepL [0, 1, 6, 2, 7, 3, 8, 4, 9, 5, 10] (by decide) (by decide) Φ
theorem bigSep_eleven' (Φ : Fin 11 → sProp 𝕄) : bigSep Finset.univ Φ
    = iprop(Φ 1 ∗ Φ 2 ∗ Φ 3 ∗ Φ 4 ∗ Φ 5 ∗ Φ 6 ∗ Φ 7 ∗ Φ 8 ∗ Φ 9 ∗ Φ 10 ∗ Φ 0) :=
  bigSep_univ_eq_bigSepL [1, 2, 3, 4, 5, 6, 7, 8, 9, 10, 0] (by decide) (by decide) Φ
theorem bigSep_ten (Φ : Fin 10 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9) :=
  bigSep_univ_eq_bigSepL [0, 1, 2, 3, 4, 5, 6, 7, 8, 9] (by decide) (by decide) Φ

/-- A device's eleven cells: the barrier, and a send and a receive cell per exchange. -/
theorem cells_eq (Φ : GSem nD τ sig → sProp 𝕄) : (bigSep Finset.univ fun k : Fin 11 => Φ (kcell (c, k)))
    = iprop(Φ (barCell c) ∗ bigSep Finset.univ fun p : Fin 5 => iprop(Φ (sendCell c p) ∗ Φ (recvCell c p))) := by
  rw [bigSep_eleven, bigSep_five]
  simp only [sep_right]
  rfl

/-- The tokens of device `c`'s own cells. -/
def ownToks : sProp 𝕄 := bigSep Finset.univ fun k : Fin 11 => bigSep Finset.univ fun d : Dev nD => dutyTok ER (kcell (c, k)) 0 d

/-- What the launch mints for device `c`. -/
def G : sProp 𝕄 :=
  iprop((bigSep Finset.univ fun k : Fin 11 => roundState ER (Rd m) (kcell (c, k)) 0)
    ∗ (bigSep Finset.univ fun k : Fin 11 => atPos ER (kcell (c, k)) 0 ∅ 0)
    ∗ (bigSep Finset.univ fun k : Fin 11 => reached ER (kcell (c, k)) 0) ∗ ownToks (F := F) c)

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Fin 11 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => ownToks (F := F) c := by
    unfold allToks ownToks; rw [bigSep_map, bigSep_univ_prod, bigSep_univ_prod]; rfl
  iintro HX
  imod (Rounds.fund ER (Rd m) allCells allToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat']; · iexact Hat'
  isplitl [Hr']; · iexact Hr'
  iexact Htok'

/-- The kernel's own semaphores and the barrier at zero, as the launch holds them. -/
theorem zeros_eq : iprop(Pipeline.ownSems0 (Ix := Unit) (Name := ℕ) (U := UU) (Lvl := ℕ) (Val := Elt F) (τ := τ) osem c ∗ unscopedSems0 c)
    = (bigSep Finset.univ fun k : Fin 11 => semVal (kcell (c, k)) 0 : sProp 𝕄) := by
  unfold unscopedSems0 Pipeline.ownSems0
  rw [bigSep_ten, bigSep_eleven', bigSep_eq_bigSepL_of_eq [SemLoc.reg barS] (by decide) (by decide)]
  simp only [sep_right]
  rfl

/-- On one device: its counters and round states become its cells' invariants. -/
theorem core_alloc :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Fin 11 => iprop(∃ κ : ℕ, cellInv ER (Rd m) κ (kcell (c, k))))
          ∗ (bigSep Finset.univ fun k : Fin 11 => atPos ER (kcell (c, k)) 0 ∅ 0)
          ∗ (bigSep Finset.univ fun k : Fin 11 => reached ER (kcell (c, k)) 0) ∗ ownToks (F := F) c) := by
  unfold G
  iintro ⟨Hos, Hus, Hst, Hat, Hr, Htok⟩
  ihave Hv := (Entails.of_eq (zeros_eq (F := F) c)) $$ [Hos Hus]
  · isplitl [Hos] <;> iassumption
  imod (show iprop((bigSep Finset.univ fun k : Fin 11 => semVal (kcell (c, k)) 0) ∗ bigSep Finset.univ fun k : Fin 11 => roundState ER (Rd m) (kcell (c, k)) 0)
      ⊢ (|={Set.univ}=> bigSep Finset.univ fun k : Fin 11 => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Hr] <;> iassumption

/-! ## The tokens dealt -/

/-- The tokens of the duties device `c` pays. -/
def payToks : sProp 𝕄 :=
  iprop((bigSep (others c) fun t => dutyTok ER (barCell t) 0 c) ∗ bigSep Finset.univ fun p : Fin 5 => Toks (F := F) c p)

/-- A family over ordered pairs of devices, summed by its second device. -/
theorem turn (Φ : Dev nD → Dev nD → sProp 𝕄) :
    (bigSep Finset.univ fun c : Dev nD => bigSep Finset.univ fun d : Dev nD => Φ c d)
      ⊢ bigSep Finset.univ fun c : Dev nD => bigSep (others c) fun t => Φ t c := by
  rw [BI.bigSep_univ_comm]
  exact bigSep_mono fun c _ => bigSep_subset (Finset.subset_univ _)

theorem toks_dealt : (bigSep Finset.univ fun c : Dev nD => ownToks (F := F) c) ⊢ (bigSep Finset.univ fun c : Dev nD => payToks (F := F) c : sProp 𝕄) := by
  have e (c : Dev nD) := cells_eq c (fun g => (bigSep Finset.univ fun d : Dev nD => dutyTok ER g 0 d : sProp 𝕄))
  have hp (p : Fin 5) : iprop((bigSep Finset.univ fun c : Dev nD => bigSep Finset.univ fun d : Dev nD => dutyTok ER (sendCell c p) 0 d)
        ∗ (bigSep Finset.univ fun c : Dev nD => bigSep Finset.univ fun d : Dev nD => dutyTok ER (recvCell c p) 0 d))
      ⊢ (bigSep Finset.univ fun c : Dev nD => Toks (F := F) c p : sProp 𝕄) := by
    unfold Toks
    rw [bigSep_congr (s := Finset.univ) fun (c : Dev nD) _ => bigSep_pair (others c) (fun t => (dutyTok ER (sendCell c p) 0 t : sProp 𝕄)) (fun t => dutyTok ER (recvCell t p) 0 c),
      bigSep_pair Finset.univ]
    exact BIClass.sep_mono (bigSep_mono fun c _ => bigSep_subset (Finset.subset_univ _)) (turn fun c d => dutyTok ER (recvCell c p) 0 d)
  unfold ownToks payToks
  rw [bigSep_congr (s := Finset.univ) fun c _ => e c, bigSep_pair Finset.univ, bigSep_pair Finset.univ,
    BI.bigSep_univ_comm (fun (c : Dev nD) (p : Fin 5) => (Toks (F := F) c p : sProp 𝕄)),
    BI.bigSep_univ_comm (fun (c : Dev nD) (p : Fin 5) => iprop((bigSep Finset.univ fun d : Dev nD => (dutyTok ER (sendCell c p) 0 d : sProp 𝕄)) ∗ bigSep Finset.univ fun d : Dev nD => dutyTok ER (recvCell c p) 0 d))]
  refine BIClass.sep_mono (turn fun c d => dutyTok ER (barCell c) 0 d) (bigSep_mono fun p _ => ?_)
  rw [bigSep_pair Finset.univ]
  exact hp p

/-- What the launch's global step leaves device `c`: the records, its positions, the tokens it pays with. -/
def places : sProp 𝕄 :=
  iprop(atPos ER (barCell c) 0 ∅ 0 ∗ bigSep Finset.univ fun p : Fin 5 => iprop(atPos ER (sendCell c p) 0 ∅ 0 ∗ atPos ER (recvCell c p) 0 ∅ 0))
def G' : sProp 𝕄 := iprop(∃ K, records m K ∗ places (F := F) c ∗ payToks (F := F) c)

/-- Something known for good goes into every conjunct. -/
theorem bigSep_with_known {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : Fin 11 => iprop(∃ κ : ℕ, cellInv ER (Rd m) κ (kcell (c, k))))
          ∗ (bigSep Finset.univ fun k : Fin 11 => atPos ER (kcell (c, k)) 0 ∅ 0)
          ∗ (bigSep Finset.univ fun k : Fin 11 => reached ER (kcell (c, k)) 0) ∗ ownToks (F := F) c) : sProp 𝕄)
      ⊢ bigSep Finset.univ (G' m) := by
  rw [bigSep_pair Finset.univ, bigSep_pair Finset.univ, bigSep_pair Finset.univ,
    ← bigSep_univ_prod (fun ck : Dev nD × Fin 11 => iprop(∃ κ : ℕ, cellInv ER (Rd m) κ (kcell ck))),
    ← bigSep_univ_prod (fun ck : Dev nD × Fin 11 => (reached ER (kcell ck) 0 : sProp 𝕄)),
    bigSep_congr (s := Finset.univ) fun (c : Dev nD) _ => cells_eq c (fun g => (atPos ER g 0 ∅ 0 : sProp 𝕄))]
  iintro ⟨HI, Hat, #HR, Htok⟩
  ihave HK := (BI.bigSep_exists_pi Finset.univ (fun (ck : Dev nD × Fin 11) (κ : ℕ) => (cellInv ER (Rd m) κ (kcell ck) : sProp 𝕄))) $$ HI
  icases HK with ⟨%K, #HI⟩
  ihave Htk := (toks_dealt (F := F)) $$ Htok
  iapply (bigSep_with_known (R := records m K) (Φ := fun c => iprop(places (F := F) c ∗ payToks (F := F) c)) fun c _ =>
    (show iprop(records m K ∗ places (F := F) c ∗ payToks (F := F) c) ⊢ G' m c from by unfold G'; iintro H; iexists K; iexact H))
  isplitr
  · unfold records; isplitl; · iexact HI
    iexact HR
  · iapply (Entails.of_eq (bigSep_pair Finset.univ (fun c : Dev nD => places (F := F) c) (fun c : Dev nD => payToks (F := F) c)).symm)
    isplitl [Hat]; · unfold places; iexact Hat
    iexact Htk

/-- The global step, all devices at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem barCell_injective : Function.Injective (barCell : Dev nD → GSem nD τ sig) :=
  fun a b h => congrArg (fun g : GSem nD τ sig => g.1.1) h
theorem recvCell_injective (p : Fin 5) : Function.Injective (fun t => recvCell t p : Dev nD → GSem nD τ sig) :=
  fun a b h => congrArg (fun g : GSem nD τ sig => g.1.1) h

/-- What device `d` owes device `c`'s barrier; -/
theorem owed_bar (d : Dev nD) : O₀ d (barCell c) () = if d = c then 0 else 1 := by
  have h1 : rest d 0 (barCell c) () = 0 := by
    by_contra h
    have := (rest_pos (Nat.pos_of_ne_zero h)).2
    exact absurd this (by show ¬ (0 + 2 ≤ 1); decide)
  unfold O₀
  rw [Pi.add_apply, Finsupp.add_apply, h1, Nat.zero_add]
  unfold owedBar
  rw [Pipeline.sum_tallyAt_cells _ barCell_injective, rem_zero]
  by_cases h : d = c
  · subst h
    rw [if_pos rfl, if_neg]
    rintro ⟨⟨t, ht, e⟩, -⟩
    exact Finset.ne_of_mem_erase ht (barCell_injective e)
  · rw [if_neg h, if_pos ⟨⟨c, Finset.mem_erase.mpr ⟨fun e => h e.symm, Finset.mem_univ _⟩, rfl⟩, rfl⟩]

/-- and its receive semaphore of exchange `p`. -/
theorem owed_recv (d : Dev nD) (p : Fin 5) : O₀ d (recvCell c p) () = if d = c then 0 else N := by
  have h1 : owedBar d 0 (recvCell c p) () = 0 := by
    by_contra h
    obtain ⟨t, -, h2⟩ := Pipeline.sum_pos_exists (Nat.pos_of_ne_zero h)
    obtain ⟨e, -⟩ := Pipeline.tallyAt_pos h2
    exact absurd (congrArg Prod.snd e) (by intro h; cases h)
  have hq (q : Fin 5) (hne : q ≠ p) : owedP d q 0 (recvCell c p) () = 0 := by
    by_contra h
    obtain ⟨t, -, h2⟩ := Pipeline.sum_pos_exists (Nat.pos_of_ne_zero h)
    obtain ⟨e, -⟩ := Pipeline.tallyAt_pos h2
    have e1 : recvS p = recvS q := by
      have := congrArg Prod.snd e
      exact SemLoc.dma.inj this
    have e2 : 13 + p.val = 13 + q.val := congrArg Fin.val e1
    exact hne (Fin.ext (by omega))
  unfold O₀
  rw [Pi.add_apply, Finsupp.add_apply, h1, Nat.add_zero]
  unfold rest
  rw [Finset.sum_apply, Finsupp.finsetSum_apply, Finset.sum_eq_single p (fun q _ hne => hq q hne)
    (fun h => absurd (Finset.mem_filter.mpr ⟨Finset.mem_univ p, Nat.zero_le p.val⟩) h)]
  unfold owedP
  rw [Pipeline.sum_tallyAt_cells _ (recvCell_injective p), rem_zero]
  by_cases h : d = c
  · subst h
    rw [if_pos rfl, if_neg]
    rintro ⟨⟨t, ht, e⟩, -⟩
    exact Finset.ne_of_mem_erase ht (recvCell_injective p e)
  · rw [if_neg h, if_pos ⟨⟨c, Finset.mem_erase.mpr ⟨fun e => h e.symm, Finset.mem_univ _⟩, rfl⟩, rfl⟩]

/-- The same from each of the others. -/
theorem sum_others (k : ℕ) : (∑ d : Dev nD, if d = c then 0 else k) = 31 * k := by
  rw [← Finset.sum_erase Finset.univ (a := c) (by rw [if_pos rfl]), Finset.sum_congr rfl fun d hd => if_neg (Finset.ne_of_mem_erase hd),
    Finset.sum_const, card_others, smul_eq_mul]

theorem launch_bar :
    tallyOn (barCell c) (launchCredit (Pipeline.owing O₀) 0 (barCell c)) = (tallyAt (barCell c) () 31 : CellTallies nD τ sig Unit) := by
  unfold tallyAt; refine congrArg _ (Finsupp.ext fun u => ?_); cases u
  rw [Pipeline.launchCredit_owing, Finsupp.single_eq_same, Finset.sum_congr rfl fun d _ => owed_bar c d, sum_others, Nat.mul_one]
theorem launch_recv (p : Fin 5) :
    tallyOn (recvCell c p) (launchCredit (Pipeline.owing O₀) 0 (recvCell c p)) = (tallyAt (recvCell c p) () (31 * N) : CellTallies nD τ sig Unit) := by
  unfold tallyAt; refine congrArg _ (Finsupp.ext fun u => ?_); cases u
  rw [Pipeline.launchCredit_owing, Finsupp.single_eq_same, Finset.sum_congr rfl fun d _ => owed_recv c d p, sum_others]

/-- The first of two conjuncts dropped. -/
theorem drop_left (P Q : sProp 𝕄) : iprop(P ∗ Q) ⊢ Q := by
  iintro ⟨-, H⟩
  iexact H

/-- The credit device `c` starts with: 31 signals, and 31 blocks per exchange. -/
theorem creds : (Pipeline.launchCred O₀ c : sProp 𝕄)
    ⊢ iprop(cred (tallyAt (barCell c) () 31) ∗ bigSep Finset.univ fun p : Fin 5 => cred (tallyAt (recvCell c p) () (31 * N))) := by
  unfold Pipeline.launchCred
  have e := cells_eq c (fun g => (cred (tallyOn g (launchCredit (Pipeline.owing O₀) 0 g)) : sProp 𝕄))
  have hm := bigSep_map (s := Finset.univ) (⟨csem, csem_injective⟩ : Fin 11 ↪ SemLoc sig)
    (Φ := fun sm => (cred (tallyOn ((c : Thread nD τ), sm) (launchCredit (Pipeline.owing O₀) 0 ((c : Thread nD τ), sm))) : sProp 𝕄))
  refine (bigSep_subset (t := Finset.univ.map ⟨csem, csem_injective⟩) (Finset.subset_univ _)).trans ?_
  refine (Entails.of_eq (hm.trans e)).trans ?_
  rw [launch_bar]
  refine sep_mono_right (bigSep_mono fun p _ => ?_)
  rw [launch_recv]
  exact drop_left _ _

/-! ## The launch's side conditions -/

theorem share_eq (w : Fin cfg0.W) : (dats m 0 c).share w = fullShare := by unfold Dat.share; split <;> rfl

/-- What a device has for the protocol, put together. -/
theorem ready_intro :
    iprop(places (F := F) c ∗ payToks (F := F) c ∗ cred (tallyAt (barCell c) () 31) ∗ bigSep Finset.univ fun p : Fin 5 => cred (tallyAt (recvCell c p) () (31 * N)))
      ⊢ Ready (F := F) c := by
  unfold places payToks Ready BarBefore Before
  rw [bigSep_pair Finset.univ, bigSep_pair Finset.univ, bigSep_pair Finset.univ, bigSep_pair Finset.univ]
  iintro ⟨⟨Hb, Hs, Hr⟩, ⟨Htb, Ht⟩, Hc, Hcr⟩
  isplitl [Hb Hc Htb]
  · isplitl [Hb]; · iexact Hb
    isplitl [Hc] <;> iassumption
  isplitr [Ht]
  · isplitl [Hs]; · iexact Hs
    isplitl [Hr] <;> iassumption
  iexact Ht

theorem start_intro :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  unfold G' start know
  iintro ⟨-, Hlev, Hcr, -, ⟨%K, HK, Hp, Ht⟩⟩
  ihave Hc := (creds (F := F) c) $$ Hcr
  icases Hc with ⟨H1, HN⟩
  imodintro
  isplitl
  · isplitl [Hlev HK]
    · iexists K
      isplitl [HK] <;> iassumption
    iapply (ready_intro c)
    isplitl [Hp]; · iexact Hp
    isplitl [Ht]; · iexact Ht
    isplitl [H1] <;> iassumption
  · iempintro

theorem phi0_intro :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(start m c ∗ Scratch (F := F) c) from rfl, scopedRest0_eq]
  unfold Scratch accAll rsAll xbAll
  iintro ⟨Hs, -, Hr⟩
  isplitl [Hs]; · iexact Hs
  iexact Hr

theorem phi1_exit :
    (dats m 0 c).Φ (Fin.last cfg0.N) ⊢ iprop(unscopedSems0 c ∗ Pipeline.ownSems0 osem c ∗ Pipeline.scopedRest cfg0.spec c) := by
  rw [show (dats m 0 c).Φ (Fin.last cfg0.N) = iprop(Scratch (F := F) c ∗ Zeros (F := F) c) from rfl, scopedRest0_eq]
  have e : (Zeros (F := F) c : sProp 𝕄) = iprop(Pipeline.ownSems0 osem c ∗ unscopedSems0 c) := by
    rw [zeros_eq, cells_eq c (fun g => (semVal g 0 : sProp 𝕄))]; rfl
  rw [e]
  unfold Scratch accAll rsAll xbAll
  iintro ⟨Hr, Hos, Hus⟩
  isplitl [Hus]; · iexact Hus
  isplitl [Hos]; · iexact Hos
  iexact Hr

theorem waits : (levAts L lv : sProp 𝕄) ⊢ Pipeline.cellsWaits cfgs (dats m) () 0 c :=
  Pipeline.cellsWaits_intro cfgs (dats m) () 0 c fun w s t => by
    rcases t with ⟨_ | _, ht⟩
    · exact mayWait_launch c _ (by fin_cases w <;> fin_cases s <;> rfl)
    · show (levAts L lv : sProp 𝕄) ⊢ MayWait _ _ _ 0
      rw [MayWait_zero]; iintro -; iempintro

/-! ## The run -/

/-- What window `w`'s array of device `c` holds after the run. -/
def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- For any float values, from any memory with the counters at zero: every weakly fair execution of the program on the
    32 devices ends, with each window's array at what the proof data say and every counter at zero. -/
theorem run_main : θ_run defs (onTc (τ := τ) (main (F := F))) ⟨m, fun _ => 0, ρ⟩ (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An input's array is as it was; -/
theorem finalA_in (w : Fin cfg0.W) (h : (cfg0.win w).isOut = false) : finalA m c w = V m c (Pipeline.arrRef spec0 w) :=
  (dats (F := F) m 0 c).arrAt_in w h _

/-- and the result's array holds the device's result. -/
theorem finalA_out : (finalA m c (7 : Fin 8) : Vec F S16x256 .f32) = outAt m c := by
  have hz : (fun a => (win0_7.index t0_0) a * main_v1.ty.shape.size a) = fun _ => 0 :=
    funext fun a => by fin_cases a <;> decide
  have hr := fun f => Memref.read_access_unit_zero (Elt F) main_v1 hz (fun a => by fin_cases a <;> decide) f
  have h : ((cfg0.win (7 : Fin 8)).blk t0_0).view.read (Elt F) (finalA m c (7 : Fin 8)) = outAt m c := by
    unfold finalA
    rw [show cfg0.N = (t0_0 : Fin cfg0.N).val + 1 from rfl, (dats m 0 c).arrAt_succ (7 : Fin 8) t0_0]
    rw [show (cfg0.win (7 : Fin 8)).flush t0_0 = true from flush0_7 _, if_pos rfl]
    exact View.read_write_univ _ _
  exact (hr _).symm.trans h

/-- The frame: the arguments end as they began, every counter at zero. -/
theorem frame_run : θ_run defs (onTc (τ := τ) (main (F := F))) ⟨m, fun _ => 0, ρ⟩ (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
    ∧ r.2.sem = fun _ => 0) :=
  (θ_run defs _ _).mono (fun _ h => ⟨fun c => ⟨(h.1 c 0).trans (finalA_in m c 0 rfl), (h.1 c 1).trans (finalA_in m c 1 rfl),
    (h.1 c 3).trans (finalA_in m c 3 rfl), (h.1 c 5).trans (finalA_in m c 5 rfl), (h.1 c 2).trans (finalA_in m c 2 rfl),
    (h.1 c 4).trans (finalA_in m c 4 rfl), (h.1 c 6).trans (finalA_in m c 6 rfl)⟩, h.2⟩) (run_main m ρ)

end Cert.KernelIdealProof

end
-- ==== Proof.Layer.lean ====
/-
One layer of the perceptron as a function over the extended reals, for any width of its hidden layer: this is what the
reference computes at the full width and what one device computes at its share. The layer at the full width is
the sum over the devices of the layer at their shares.
-/
module

public import Idealize.ShloMosaic.Lib.Pointwise
public import Idealize.ShloMosaic.Lib.Layout

@[expose] public section

noncomputable section

namespace Cert.Layer

open Idealize.ShloMosaic

/-- A matrix of extended reals. -/
abbrev Mat (a b : ℕ) : Type := (⟨2, ![a, b]⟩ : Shape).Idx → EReal

/-- Entry `(r, q)` of `relu(X · Win) · Wout`, the hidden layer `n` wide. -/
def layer {n : ℕ} (X : Mat 512 256) (Win : Mat 256 n) (Wout : Mat n 256) (r : Fin 512) (q : Fin 256) : EReal :=
  ∑ k : Fin n, max (∑ j : Fin 256, X (ix2 r j) * Win (ix2 j k)) 0 * Wout (ix2 k q)

/-- The same as a matrix. -/
def layerM {n : ℕ} (X : Mat 512 256) (Win : Mat 256 n) (Wout : Mat n 256) : Mat 512 256 :=
  fun i => layer X Win Wout (i 0) (i 1)

/-- Device `d`'s columns of the first weight, and its rows of the second. -/
abbrev colsOf (d : Fin 32) (W : Mat 256 16384) : Mat 256 512 :=
  Layout.block ⟨2, ![256, 512]⟩ ⟨2, ![256, 16384]⟩ 1 32 d W
abbrev rowsOf (d : Fin 32) (W : Mat 16384 256) : Mat 512 256 :=
  Layout.block ⟨2, ![512, 256]⟩ ⟨2, ![16384, 256]⟩ 0 32 d W

/-- Hidden unit `k` of device `d` among all of them. -/
def unit (d : Fin 32) (k : Fin 512) : Fin 16384 := ⟨d.val * 512 + k.val, by omega⟩

theorem colsOf_apply (d : Fin 32) (W : Mat 256 16384) (j : Fin 256) (k : Fin 512) :
    colsOf d W (ix2 j k) = W (ix2 j (unit d k)) :=
  congrArg W (funext fun a => by fin_cases a <;> rfl)

theorem rowsOf_apply (d : Fin 32) (W : Mat 16384 256) (k : Fin 512) (q : Fin 256) :
    rowsOf d W (ix2 k q) = W (ix2 (unit d k) q) :=
  congrArg W (funext fun a => by fin_cases a <;> rfl)

/-- A sum over the hidden units is the sum over the devices of the sums over their own. -/
theorem sum_units (f : Fin 16384 → EReal) : ∑ k, f k = ∑ d : Fin 32, ∑ k : Fin 512, f (unit d k) := by
  rw [← Fintype.sum_prod_type' (f := fun d k => f (unit d k))]
  refine (Fintype.sum_equiv (finProdFinEquiv (m := 32) (n := 512)) _ _ fun x => congrArg f (Fin.ext ?_)).symm
  simp only [unit, finProdFinEquiv_apply_val]
  omega

/-- The layer at the full width is the sum over the devices of the layer at their shares. -/
theorem layer_split (X : Mat 512 256) (Win : Mat 256 16384) (Wout : Mat 16384 256) (r : Fin 512) (q : Fin 256) :
    layer X Win Wout r q = ∑ d : Fin 32, layer X (colsOf d Win) (rowsOf d Wout) r q := by
  unfold layer
  rw [sum_units]
  simp only [colsOf_apply, rowsOf_apply]

end Cert.Layer

end
-- ==== Proof.Reference.lean ====
/-
What the reference computes: three layers at the full width, each of the one before. And its frame.
-/
module

public import proofs.«01_k».proof.Defs
public import proofs.«01_k».proof.Proof.Layer
public import proofs.«01_k».proof.Proof.Gen.ReferenceIdeal
public import proofs.«01_k».proof.Proof.Gen.ReferenceIdeal.Run
public import Idealize.ShloMosaic.Lib.Pointwise
public import Idealize.ShloMosaic.Lib.Quiescent

@[expose] public section

noncomputable section

namespace Cert.ReferenceIdealProof

open Cert.ReferenceIdeal Cert.ReferenceIdeal.Gen Cert.Layer
open Idealize.ShloMosaic
open Idealize.ShloMosaic.TcCoe
open Idealize.SL.Sem

/-- One layer as the reference's operations spell it. -/
def hostLayer (X : FVec Ideal S512x256 .f32) (Win : FVec Ideal S256x16384 .f32) (Wout : FVec Ideal S16384x256 .f32) : FVec Ideal S512x256 .f32 :=
  Host.dotGeneral dot_S512x16384_S16384x256_S512x256_1_0_0_1_n_n none
    (maximumf (Host.dotGeneral dot_S512x256_S256x16384_S512x16384_1_0_0_1_n_n none X Win)
      (broadcastInDim S512x16384 ![] bcast_S_S512x16384 (constant S_ .f32 0x00000000#32))) Wout

/-- It is the layer at the full width. -/
theorem hostLayer_eq (X : FVec Ideal S512x256 .f32) (Win : FVec Ideal S256x16384 .f32) (Wout : FVec Ideal S16384x256 .f32) :
    hostLayer X Win Wout = layerM X Win Wout := by
  funext i
  unfold hostLayer layerM layer
  pointwise

/-- The reference's frame: the arguments end as they began, and it has no counters. -/
theorem frame_run : Cert.quiescent_ReferenceIdeal := by
  intro m ρ _
  exact (θ_run defs _ _).mono (fun r h => ⟨fun c => (h c).2, sem_eq_zero_of_no_sems (by decide) r.2⟩) (Value.run m ρ)

variable (m : (ℓ : Loc nD τ sig) → Buf (Elt Ideal) ℓ) (ρ : Dev nD → PrngReg)

/-- The contents of the arguments: the input and, of each layer, the two weights. -/
def aX (c : Dev nD) : Mat 512 256 := m ((c.tc : Thread nD τ).loc main_arg0)
def aWin0 (c : Dev nD) : Mat 256 16384 := m ((c.tc : Thread nD τ).loc main_arg1)
def aWin1 (c : Dev nD) : Mat 256 16384 := m ((c.tc : Thread nD τ).loc main_arg2)
def aWin2 (c : Dev nD) : Mat 256 16384 := m ((c.tc : Thread nD τ).loc main_arg3)
def aWout0 (c : Dev nD) : Mat 16384 256 := m ((c.tc : Thread nD τ).loc main_arg4)
def aWout1 (c : Dev nD) : Mat 16384 256 := m ((c.tc : Thread nD τ).loc main_arg5)
def aWout2 (c : Dev nD) : Mat 16384 256 := m ((c.tc : Thread nD τ).loc main_arg6)

/-- The three layers, one after the other. -/
def net (X : Mat 512 256) (Wi0 : Mat 256 16384) (Wo0 : Mat 16384 256) (Wi1 : Mat 256 16384) (Wo1 : Mat 16384 256)
    (Wi2 : Mat 256 16384) (Wo2 : Mat 16384 256) : Mat 512 256 :=
  layerM (layerM (layerM X Wi0 Wo0) Wi1 Wo1) Wi2 Wo2

/-- The run: the result is the three layers of the arguments, and the arguments end as they began. -/
theorem run_net : θ_run defs (onTc (τ := τ) (main (F := Ideal))) ⟨m, fun _ => 0, ρ⟩ fun r => ∀ c : Dev nD,
    r.2.mem ((c.tc : Thread nD τ).loc main_v11)
        = net (aX m c) (aWin0 m c) (aWout0 m c) (aWin1 m c) (aWout1 m c) (aWin2 m c) (aWout2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c).1.trans (by
    unfold net
    rw [← hostLayer_eq, ← hostLayer_eq, ← hostLayer_eq]
    rfl), (h c).2⟩) (Value.run m ρ)

end Cert.ReferenceIdealProof

end
-- ==== Proof.Value.lean ====
/-
What the kernel's blocks hold over the extended reals, where rounding is the identity: a device's partial product is
the layer at its share of the hidden units, the reduction of the received slots is the sum over the devices, and so
the activations gathered from all devices are the sum of the partial products.
-/
module

public import proofs.«01_k».proof.Proof.Layer
public import proofs.«01_k».proof.Proof.KernelIdeal.Schedule
public import Idealize.ShloMosaic.Lib.Pointwise

@[expose] public section

noncomputable section

namespace Cert.KernelIdealProof

open Cert.KernelIdeal Cert.KernelIdeal.Gen Cert.Layer
open Idealize.ShloMosaic
open Idealize.ShloMosaic.TcCoe

/-! ## What a block computes -/

/-- The three layers' partial products, of activations and of the device's weights. -/
theorem pay1_eq (X : FVec Ideal S512x256 .f32) (Wi : FVec Ideal S256x512 .f32) (Wo : FVec Ideal S512x256 .f32) :
    (k0_pay1 (F := Ideal) X Wi Wo : Mat 512 256) = layerM X Wi Wo := by
  funext i
  unfold layerM layer
  pointwise [k0_pay1]

theorem pay45_eq (X : FVec Ideal S512x256 .bf16) (Wi : FVec Ideal S256x512 .f32) (Wo : FVec Ideal S512x256 .f32) :
    (k0_pay5 (F := Ideal) (k0_pay4 X Wi Wo) : Mat 512 256) = layerM X Wi Wo := by
  funext i
  unfold layerM layer
  pointwise [k0_pay4, k0_pay5]

theorem pay8_eq (X : FVec Ideal S512x256 .bf16) (Wi : FVec Ideal S256x512 .f32) (Wo : FVec Ideal S512x256 .f32) :
    (k0_pay8 (F := Ideal) X Wi Wo : Mat 512 256) = layerM X Wi Wo := by
  funext i
  unfold layerM layer
  pointwise [k0_pay8]

/-- The three reductions of the received slots. -/
theorem pay3_apply (v : FVec Ideal S32x16x256 .bf16) (i : S16x256.Idx) :
    (k0_pay3 (F := Ideal) v i : EReal) = ∑ d : Fin 32, (v (ix3 d (i 0) (i 1)) : EReal) := by pointwise [k0_pay3]

theorem pay7_apply (v : FVec Ideal S32x16x256 .bf16) (i : S16x256.Idx) :
    (k0_pay7 (F := Ideal) v i : EReal) = ∑ d : Fin 32, (v (ix3 d (i 0) (i 1)) : EReal) := by pointwise [k0_pay7]

theorem pay10_apply (v : FVec Ideal S32x16x256 .bf16) (i : S16x256.Idx) :
    (k0_pay10 (F := Ideal) v i : EReal) = ∑ d : Fin 32, (v (ix3 d (i 0) (i 1)) : EReal) := by pointwise [k0_pay10]

/-! ## What the arrays hold -/

variable (A : Dev nD → Vec Ideal S512x256 .bf16)

/-- An element of a slot is the sender's partial product at that row of the receiver's block. -/
theorem slotsOf_apply (s : Dev nD) (d : Fin 32) (r : Fin 16) (q : Fin 256) :
    (slotsOf A s (ix3 d r q) : EReal) = A d (ix2 (rowOf s r) q) := by
  rw [ix2_eq_valueIdx]
  rfl

/-- Row `rowIn i` of block `blockOf i` is the row of `i`. -/
theorem row_eq (i : S512x256.Idx) : ix2 (rowOf (blockOf i) (rowIn i)) (⟨(i 1).val, (i 1).isLt⟩ : Fin 256) = i := by
  funext a
  refine Fin.ext ?_
  match a with
  | ⟨0, _⟩ => exact Nat.div_add_mod (i 0).val 16
  | ⟨1, _⟩ => rfl

/-- Reducing the slots on every device and gathering the blocks sums the partial products: if each block's reduction
    `R` is the sum over its slots, the gathered activations are the sum over the devices. -/
theorem stack_sum (R : Vec Ideal S32x16x256 .bf16 → Vec Ideal S16x256 .bf16)
    (hR : ∀ v i, (R v i : EReal) = ∑ d : Fin 32, (v (ix3 d (i 0) (i 1)) : EReal)) :
    (stack (fun s => R (slotsOf A s)) : Mat 512 256) = fun i => ∑ d : Fin 32, (A d i : EReal) := by
  funext i
  refine (hR _ _).trans (Finset.sum_congr rfl fun d _ => ?_)
  refine (slotsOf_apply A _ d _ _).trans (congrArg (A d) ?_)
  exact row_eq i

/-! ## Layer by layer -/

variable (m : (ℓ : Loc nD τ sig) → Buf (Elt Ideal) ℓ)
variable (X : Mat 512 256) (Wi0 Wi1 Wi2 : Mat 256 16384) (Wo0 Wo1 Wo2 : Mat 16384 256)

/-- The arguments are laid out: every device holds the input whole, and its own part of every weight. -/
structure Laid : Prop where
  x : ∀ c, (xin m c : Mat 512 256) = X
  wi0 : ∀ c, (wi0 m c : Mat 256 512) = colsOf c Wi0
  wo0 : ∀ c, (wo0 m c : Mat 512 256) = rowsOf c Wo0
  wi1 : ∀ c, (wi1 m c : Mat 256 512) = colsOf c Wi1
  wo1 : ∀ c, (wo1 m c : Mat 512 256) = rowsOf c Wo1
  wi2 : ∀ c, (wi2 m c : Mat 256 512) = colsOf c Wi2
  wo2 : ∀ c, (wo2 m c : Mat 512 256) = rowsOf c Wo2

variable {m X Wi0 Wi1 Wi2 Wo0 Wo1 Wo2} (h : Laid m X Wi0 Wi1 Wi2 Wo0 Wo1 Wo2)

/-- The devices' shares of a layer sum to the layer. -/
theorem sum_layer (Y : Mat 512 256) (Wi : Mat 256 16384) (Wo : Mat 16384 256) :
    (fun i => ∑ d : Fin 32, layerM Y (colsOf d Wi) (rowsOf d Wo) i) = layerM Y Wi Wo :=
  funext fun i => (layer_split Y Wi Wo (i 0) (i 1)).symm

include h

theorem A0_eq (c : Dev nD) : (A0 m c : Mat 512 256) = layerM X (colsOf c Wi0) (rowsOf c Wo0) := by
  refine (pay1_eq _ _ _).trans ?_
  rw [h.x, h.wi0, h.wo0]

/-- The activations every device holds after the first layer. -/
theorem X1_eq : (X1 m : Mat 512 256) = layerM X Wi0 Wo0 := by
  refine (stack_sum (A0 m) _ pay3_apply).trans ?_
  rw [← sum_layer]
  exact funext fun i => Finset.sum_congr rfl fun d _ => congrFun (A0_eq h d) i

theorem A1_eq (c : Dev nD) :
    (A1 m c : Mat 512 256) = layerM (layerM X Wi0 Wo0) (colsOf c Wi1) (rowsOf c Wo1) := by
  refine (pay45_eq _ _ _).trans ?_
  rw [X1_eq h, h.wi1, h.wo1]

/-- The activations every device holds after the second layer. -/
theorem X2_eq : (X2 m : Mat 512 256) = layerM (layerM X Wi0 Wo0) Wi1 Wo1 := by
  refine (stack_sum (A1 m) _ pay7_apply).trans ?_
  rw [← sum_layer]
  exact funext fun i => Finset.sum_congr rfl fun d _ => congrFun (A1_eq h d) i

theorem A2_eq (c : Dev nD) :
    (A2 m c : Mat 512 256) = layerM (layerM (layerM X Wi0 Wo0) Wi1 Wo1) (colsOf c Wi2) (rowsOf c Wo2) := by
  refine (pay8_eq _ _ _).trans ?_
  rw [X2_eq h, h.wi2, h.wo2]

/-- Device `c`'s result is block `c` of the three layers' result. -/
theorem outAt_eq (c : Dev nD) : (outAt m c : Mat 16 256)
    = Layout.block ⟨2, ![16, 256]⟩ ⟨2, ![512, 256]⟩ 0 32 c (layerM (layerM (layerM X Wi0 Wo0) Wi1 Wo1) Wi2 Wo2) := by
  funext i
  rw [← sum_layer]
  refine (pay10_apply _ i).trans (Finset.sum_congr rfl fun d _ => ?_)
  refine (slotsOf_apply (A2 m) c d _ _).trans ((congrFun (A2_eq h d) _).trans (congrArg _ ?_))
  funext a
  refine Fin.ext ?_
  match a with
  | ⟨0, _⟩ => exact congrArg (· + (i 0).val) (Nat.mul_comm 16 c.val)
  | ⟨1, _⟩ => rfl

end Cert.KernelIdealProof

end
-- ==== Proof.Equation.lean ====
/-
The equation: from memories whose arguments agree, the kernel's and the reference's runs end with every device
holding its block of the reference's result.
-/
module

public import proofs.«01_k».proof.Defs
public import proofs.«01_k».proof.Proof.Reference
public import proofs.«01_k».proof.Proof.Value
public import proofs.«01_k».proof.Proof.KernelIdeal.Launch

@[expose] public section

noncomputable section

namespace Cert.KernelIdealProof

open Cert.KernelIdeal Cert.KernelIdeal.Gen Cert.Layer
open Idealize.ShloMosaic
open Idealize.ShloMosaic.TcCoe
open Idealize.SL.Sem

/-! ## The blocks the kernel reads are its arguments whole -/

variable (m : (ℓ : Loc nD τ sig) → Buf (Elt Ideal) ℓ) (c : Dev nD)

/-- A whole buffer read from offset zero is its contents. -/
theorem read_zero (b : Ref sig .tc) {off : Fin b.ty.shape.rank → ℕ} (h : ∀ a, off a = 0)
    (inb : ∀ a, off a + b.ty.shape.size a ≤ b.ty.shape.size a) (f : b.ty.Contents (Elt Ideal)) :
    ((Memref.whole b).access (Rect.unit off b.ty.shape.size inb) : View sig .tc _ _ _).read (Elt Ideal) f = f :=
  Memref.read_access_unit_zero (Elt Ideal) b (funext h) inb f

theorem xin_eq : xin m c = m ((c.tc : Thread nD τ).loc main_arg0) := by
  unfold xin iblk
  exact read_zero main_arg0 (off := fun a => win0_0.index t0_0 a * main_arg0.ty.shape.size a)
    (fun a => by fin_cases a <;> decide) (fun a => by fin_cases a <;> decide) (V m c main_arg0)
theorem wi0_eq : wi0 m c = m ((c.tc : Thread nD τ).loc main_arg1) := by
  unfold wi0 iblk
  exact read_zero main_arg1 (off := fun a => win0_1.index t0_0 a * main_arg1.ty.shape.size a)
    (fun a => by fin_cases a <;> decide) (fun a => by fin_cases a <;> decide) (V m c main_arg1)
theorem wo0_eq : wo0 m c = m ((c.tc : Thread nD τ).loc main_arg4) := by
  unfold wo0 iblk
  exact read_zero main_arg4 (off := fun a => win0_2.index t0_0 a * main_arg4.ty.shape.size a)
    (fun a => by fin_cases a <;> decide) (fun a => by fin_cases a <;> decide) (V m c main_arg4)
theorem wi1_eq : wi1 m c = m ((c.tc : Thread nD τ).loc main_arg2) := by
  unfold wi1 iblk
  exact read_zero main_arg2 (off := fun a => win0_3.index t0_0 a * main_arg2.ty.shape.size a)
    (fun a => by fin_cases a <;> decide) (fun a => by fin_cases a <;> decide) (V m c main_arg2)
theorem wo1_eq : wo1 m c = m ((c.tc : Thread nD τ).loc main_arg5) := by
  unfold wo1 iblk
  exact read_zero main_arg5 (off := fun a => win0_4.index t0_0 a * main_arg5.ty.shape.size a)
    (fun a => by fin_cases a <;> decide) (fun a => by fin_cases a <;> decide) (V m c main_arg5)
theorem wi2_eq : wi2 m c = m ((c.tc : Thread nD τ).loc main_arg3) := by
  unfold wi2 iblk
  exact read_zero main_arg3 (off := fun a => win0_5.index t0_0 a * main_arg3.ty.shape.size a)
    (fun a => by fin_cases a <;> decide) (fun a => by fin_cases a <;> decide) (V m c main_arg3)
theorem wo2_eq : wo2 m c = m ((c.tc : Thread nD τ).loc main_arg6) := by
  unfold wo2 iblk
  exact read_zero main_arg6 (off := fun a => win0_6.index t0_0 a * main_arg6.ty.shape.size a)
    (fun a => by fin_cases a <;> decide) (fun a => by fin_cases a <;> decide) (V m c main_arg6)

/-! ## The two runs -/

/-- Kernel and reference compute the same function over the extended reals: device `c`'s result is block `c` of the
    reference's. -/
theorem equation : Cert.algebraic_KernelIdeal_ReferenceIdeal := by
  intro m g m' g' _ hag
  have h : Laid m (ReferenceIdealProof.aX m' 0) (ReferenceIdealProof.aWin0 m' 0) (ReferenceIdealProof.aWin1 m' 0)
      (ReferenceIdealProof.aWin2 m' 0) (ReferenceIdealProof.aWout0 m' 0) (ReferenceIdealProof.aWout1 m' 0)
      (ReferenceIdealProof.aWout2 m' 0) :=
    { x := fun c => (xin_eq m c).trans (hag c).1
      wi0 := fun c => (wi0_eq m c).trans (hag c).2.1
      wi1 := fun c => (wi1_eq m c).trans (hag c).2.2.1
      wi2 := fun c => (wi2_eq m c).trans (hag c).2.2.2.1
      wo0 := fun c => (wo0_eq m c).trans (hag c).2.2.2.2.1
      wo1 := fun c => (wo1_eq m c).trans (hag c).2.2.2.2.2.1
      wo2 := fun c => (wo2_eq m c).trans (hag c).2.2.2.2.2.2 }
  refine ⟨ReferenceIdealProof.net (ReferenceIdealProof.aX m' 0) (ReferenceIdealProof.aWin0 m' 0)
      (ReferenceIdealProof.aWout0 m' 0) (ReferenceIdealProof.aWin1 m' 0) (ReferenceIdealProof.aWout1 m' 0)
      (ReferenceIdealProof.aWin2 m' 0) (ReferenceIdealProof.aWout2 m' 0), ?_, ?_⟩
  · exact (θ_run defs _ _).mono (fun _ r c => ⟨(r.1 c 7).trans ((finalA_out m c).trans (outAt_eq h c)),
      (r.1 c 0).trans (finalA_in m c 0 rfl), (r.1 c 1).trans (finalA_in m c 1 rfl),
      (r.1 c 3).trans (finalA_in m c 3 rfl), (r.1 c 5).trans (finalA_in m c 5 rfl),
      (r.1 c 2).trans (finalA_in m c 2 rfl), (r.1 c 4).trans (finalA_in m c 4 rfl),
      (r.1 c 6).trans (finalA_in m c 6 rfl)⟩) (run_main m g)
  · exact (θ_run Cert.ReferenceIdeal.defs _ _).mono (fun _ r => r 0) (ReferenceIdealProof.run_net m' g')

end Cert.KernelIdealProof

end
-- ==== Proof.lean ====
/-
The certificate: the frames of the kernel, of its ideal form and of the reference; that the ideal form is the kernel
over the extended reals; and that kernel and reference compute the same function over them.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Kernel.Launch
public import proofs.«01_k».proof.Proof.KernelIdeal.Launch
public import proofs.«01_k».proof.Proof.Reference
public import proofs.«01_k».proof.Proof.Equation

@[expose] public section

noncomputable section

namespace Cert.Proof

open Idealize.ShloMosaic Idealize.SL.Sem

/-- The five claims: the kernel's frame in machine arithmetic, its frame and the reference's over the extended reals,
    that the two forms of the kernel differ in nothing but the arithmetic, and that kernel and reference agree. -/
theorem claim : Cert.Claim :=
  ⟨Cert.Kernel.Gen.facts, Cert.KernelIdeal.Gen.facts, Cert.ReferenceIdeal.Gen.facts,
    fun m g _ => Cert.KernelProof.frame_run (F := Bits) m g,
    fun m g _ => Cert.KernelIdealProof.frame_run (F := Ideal) m g,
    Cert.ReferenceIdealProof.frame_run,
    trivial,
    Cert.KernelIdealProof.equation⟩

end Cert.Proof

end
